-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered_splits [hPre_ordered_splits : Cert.Pre_ordered_splits.Facts] (m : (ℓ : Loc Cert.KernelIdeal.nD Cert.KernelIdeal.τ Cert.KernelIdeal.sig) → Buf (Elt Ideal) ℓ) : Prop :=
  ∀ c : Dev Cert.KernelIdeal.nD,
    (Cert.Pre_ordered_splits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered_splits [hPre_ordered_splits : Cert.Pre_ordered_splits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered_splits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ordered_splits [hKernelIdeal : Cert.KernelIdeal.Facts] [hPre_ordered_splits : Cert.Pre_ordered_splits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered_splits m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ordered_splits [hReferenceIdeal : Cert.ReferenceIdeal.Facts] [hPre_ordered_splits : Cert.Pre_ordered_splits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered_splits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ordered_splits [hKernelIdeal : Cert.KernelIdeal.Facts] [hReferenceIdeal : Cert.ReferenceIdeal.Facts] [hPre_ordered_splits : Cert.Pre_ordered_splits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered_splits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ordered_splits : Cert.Pre_ordered_splits.Facts),
    quiescent_Kernel (hKernel := hKernel)
    ∧ quiescent_KernelIdeal (hKernelIdeal := hKernelIdeal)
    ∧ quiescent_KernelIdeal_pre_ordered_splits (hKernelIdeal := hKernelIdeal) (hPre_ordered_splits := hPre_ordered_splits)
    ∧ quiescent_ReferenceIdeal (hReferenceIdeal := hReferenceIdeal)
    ∧ quiescent_ReferenceIdeal_pre_ordered_splits (hReferenceIdeal := hReferenceIdeal) (hPre_ordered_splits := hPre_ordered_splits)
    ∧ preserves_Kernel_KernelIdeal
    ∧ algebraic_KernelIdeal_ReferenceIdeal_pre_ordered_splits (hKernelIdeal := hKernelIdeal) (hReferenceIdeal := hReferenceIdeal) (hPre_ordered_splits := hPre_ordered_splits)
-- ==== Pre_ordered_splits.lean ====
abbrev S8388608x2 : Shape := ⟨2, ![8388608, 2]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S8388608x2 .f32) (main_arg1 : FVec F S2 .f32) : IVec S_ 1 :=
  let main_v0 : FVec F S1 .f32 := (extractStridedSlice S1 ![0] · slices_S2_S1_0) main_arg1
  let main_v1 : FVec F S_ .f32 := shapeCast S_ main_v0 shapeCasts_S1_S_
  let main_v2 : FVec F S1 .f32 := (extractStridedSlice S1 ![1] · slices_S2_S1_1) main_arg1
  let main_v3 : FVec F S_ .f32 := shapeCast S_ main_v2 shapeCasts_S1_S_
  let main_v4 : IVec S_ 1 := cmpf .ole main_v1 main_v3
  main_v4
-- ==== Kernel.lean ====
abbrev S8388608x2 : Shape := ⟨2, ![8388608, 2]⟩
abbrev S2 : Shape := ⟨1, ![2]⟩
abbrev S16777216 : Shape := ⟨1, ![16777216]⟩
abbrev S1 : Shape := ⟨1, ![1]⟩
abbrev S_ : Shape := ⟨0, ![]⟩
abbrev S16 : Shape := ⟨1, ![16]⟩
abbrev S25165824 : Shape := ⟨1, ![25165824]⟩
abbrev S16384 : Shape := ⟨1, ![16384]⟩
abbrev S24576 : Shape := ⟨1, ![24576]⟩
abbrev S8388608x3 : Shape := ⟨2, ![8388608, 3]⟩

abbrev nBuf : Table → Nat
  | .hbm => 11
  | .local .scVector .vmem => 4
  | _ => 0

abbrev bufTy : (tb : Table) → Fin (nBuf tb) → BufTy
  | .hbm, ⟨0, _⟩ => ⟨S8388608x2, .f32⟩
  | .hbm, ⟨1, _⟩ => ⟨S2, .f32⟩
  | .hbm, ⟨2, _⟩ => ⟨S16777216, .f32⟩
  | .hbm, ⟨3, _⟩ => ⟨S1, .f32⟩
  | .hbm, ⟨4, _⟩ => ⟨S_, .f32⟩
  | .hbm, ⟨5, _⟩ => ⟨S16, .f32⟩
  | .hbm, ⟨6, _⟩ => ⟨S1, .f32⟩
  | .hbm, ⟨7, _⟩ => ⟨S_, .f32⟩
  | .hbm, ⟨8, _⟩ => ⟨S16, .f32⟩
  | .hbm, ⟨9, _⟩ => ⟨S25165824, .i32⟩
  | .hbm, ⟨10, _⟩ => ⟨S8388608x3, .i32⟩
  | .local .scVector .vmem, ⟨0, _⟩ => ⟨S16384, .f32⟩
  | .local .scVector .vmem, ⟨1, _⟩ => ⟨S24576, .i32⟩
  | .local .scVector .vmem, ⟨2, _⟩ => ⟨S16, .f32⟩
  | .local .scVector .vmem, ⟨3, _⟩ => ⟨S16, .f32⟩
  | _, _ => ⟨S8388608x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v0_scv : Ref sig .scVector := ⟨.hbm, 2, rfl⟩
abbrev main_v3_scv : Ref sig .scVector := ⟨.hbm, 5, rfl⟩
abbrev main_v6_scv : Ref sig .scVector := ⟨.hbm, 8, rfl⟩
abbrev main_v7_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c32_i32 : BitVec 32 := 32#32
  let v10 : BitVec 32 := Scalar.addi c0_i32_2 c32_i32
  let c1_i32 : BitVec 32 := 1#32
  ⟨c0_i32_2, v10, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_2 : BitVec 32 := 0#32
  let c1_i32 : BitVec 32 := 1#32
  let arg10 : BitVec 32 := Scf.iv c0_i32_2 c1_i32 k0_t1
  let c8192_i32 : BitVec 32 := 8192#32
  let v11 : BitVec 32 := Scalar.muli arg10 c8192_i32
  let v12 : BitVec 32 := Scalar.addi v2 v11
  let c2_i32_4 : BitVec 32 := 2#32
  let v13 : BitVec 32 := Scalar.muli v12 c2_i32_4
  ![v13.toNat]
@[reducible] def k0_t2_loop : Scf.Loop 32 :=
  let c0_i32_6 : BitVec 32 := 0#32
  let c512_i32 : BitVec 32 := 512#32
  let v14 : BitVec 32 := Scalar.addi c0_i32_6 c512_i32
  let c1_i32_7 : BitVec 32 := 1#32
  ⟨c0_i32_6, v14, c1_i32_7⟩

def k0_chk1 (v18 : IVec S16 32) : Prop :=
  (∀ a x, ((![v18] : Fin 1 → IVec S16 32) a x).toNat < S16384.size a)
theorem k0_idx1_inb : ∀ (v18 : IVec S16 32) (k0_hw1 : k0_chk1 v18), ∀ a x, ((![v18] : Fin 1 → IVec S16 32) a x).toNat < S16384.size a := fun v18 k0_hw1 => k0_hw1

def k0_chk2 (v21 : IVec S16 32) : Prop :=
  (∀ a x, ((![v21] : Fin 1 → IVec S16 32) a x).toNat < S16384.size a)
theorem k0_idx2_inb : ∀ (v21 : IVec S16 32) (k0_hw2 : k0_chk2 v21), ∀ a x, ((![v21] : Fin 1 → IVec S16 32) a x).toNat < S16384.size a := fun v21 k0_hw2 => k0_hw2

def k0_chk3 (v39 : IVec S16 32) : Prop :=
  (∀ a x, ((![v39] : Fin 1 → IVec S16 32) a x).toNat < S24576.size a)
theorem k0_idx3_inb : ∀ (v39 : IVec S16 32) (k0_hw3 : k0_chk3 v39), ∀ a x, ((![v39] : Fin 1 → IVec S16 32) a x).toNat < S24576.size a := fun v39 k0_hw3 => k0_hw3

def k0_chk4 (v41 : IVec S16 32) : Prop :=
  (∀ a x, ((![v41] : Fin 1 → IVec S16 32) a x).toNat < S24576.size a)
theorem k0_idx4_inb : ∀ (v41 : IVec S16 32) (k0_hw4 : k0_chk4 v41), ∀ a x, ((![v41] : Fin 1 → IVec S16 32) a x).toNat < S24576.size a := fun v41 k0_hw4 => k0_hw4

def k0_chk5 (v43 : IVec S16 32) : Prop :=
  (∀ a x, ((![v43] : Fin 1 → IVec S16 32) a x).toNat < S24576.size a)
theorem k0_idx5_inb : ∀ (v43 : IVec S16 32) (k0_hw5 : k0_chk5 v43), ∀ a x, ((![v43] : Fin 1 → IVec S16 32) a x).toNat < S24576.size a := fun v43 k0_hw5 => k0_hw5
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_2 : BitVec 32 := 0#32
  let c1_i32 : BitVec 32 := 1#32
  let arg10 : BitVec 32 := Scf.iv c0_i32_2 c1_i32 k0_t1
  let c8192_i32 : BitVec 32 := 8192#32
  let v11 : BitVec 32 := Scalar.muli arg10 c8192_i32
  let v12 : BitVec 32 := Scalar.addi v2 v11
  let c3_i32_9 : BitVec 32 := 3#32
  let v15 : BitVec 32 := Scalar.muli v12 c3_i32_9
  ![v15.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8388608x2 : Shape := ⟨2, ![8388608, 2]⟩
abbrev S2 : Shape := ⟨1, ![2]⟩
abbrev S8388608x1 : Shape := ⟨2, ![8388608, 1]⟩
abbrev S8388608 : Shape := ⟨1, ![8388608]⟩
abbrev S1x2 : Shape := ⟨2, ![1, 2]⟩
abbrev S_ : Shape := ⟨0, ![]⟩
abbrev S1x3 : Shape := ⟨2, ![1, 3]⟩
abbrev S8388608x3 : Shape := ⟨2, ![8388608, 3]⟩

abbrev nBuf : Space → Nat
  | .hbm => 21
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S2, .f32⟩
  | .hbm, ⟨2, _⟩ => ⟨S8388608x1, .f32⟩
  | .hbm, ⟨3, _⟩ => ⟨S8388608, .f32⟩
  | .hbm, ⟨4, _⟩ => ⟨S8388608x1, .f32⟩
  | .hbm, ⟨5, _⟩ => ⟨S8388608, .f32⟩
  | .hbm, ⟨6, _⟩ => ⟨S8388608, .f32⟩
  | .hbm, ⟨7, _⟩ => ⟨S1x2, .f32⟩
  | .hbm, ⟨8, _⟩ => ⟨S8388608x1, .f32⟩
  | .hbm, ⟨9, _⟩ => ⟨S8388608x2, .f32⟩
  | .hbm, ⟨10, _⟩ => ⟨S8388608x2, .f32⟩
  | .hbm, ⟨11, _⟩ => ⟨S8388608x2, .i1⟩
  | .hbm, ⟨12, _⟩ => ⟨S8388608x2, .i32⟩
  | .hbm, ⟨13, _⟩ => ⟨S_, .i32⟩
  | .hbm, ⟨14, _⟩ => ⟨S8388608, .i32⟩
  | .hbm, ⟨15, _⟩ => ⟨S8388608x1, .i32⟩
  | .hbm, ⟨16, _⟩ => ⟨S1x3, .i32⟩
  | .hbm, ⟨17, _⟩ => ⟨S8388608x3, .i32⟩
  | .hbm, ⟨18, _⟩ => ⟨S8388608x3, .i32⟩
  | .hbm, ⟨19, _⟩ => ⟨S8388608x3, .i1⟩
  | .hbm, ⟨20, _⟩ => ⟨S8388608x3, .i32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Proof.Words.lean ====
/-
  The words the kernel writes, as a function of the numbers it reads, with no program in sight.

  A row of the input is a pair `(a, b)`; its distance is `d = b - a`. Two splits `s0`, `s1` cut the line into three bins, and
  the row's output is three 32-bit words, a one for the bin it falls in: word 0 is one unless `s0 < d`, word 1 is one when
  `s0 < d` and not `s1 < d`, word 2 is one when `s1 < d`. The arrays are flat: row `r` is elements `2r` and `2r + 1` of the
  input and elements `3r`, `3r + 1`, `3r + 2` of the output, and row `r` reads lane `r % 16` of the sixteen-lane copies of
  the splits.
-/
module

public import Idealize.ShloMosaic.Lib.SparseCore

@[expose] public section

noncomputable section

namespace Cert.Proof.Words

open Idealize.ShloMosaic

variable {F : FTy → Type} [FloatOps F]

/-! ## One word -/

/-- Word `c` of a row `(a, b)` against the splits `s0` and `s1`. -/
def word (s0 s1 a b : F .f32) (c : ℕ) : BitVec 32 :=
  if c = 0 then Scalar.select (FloatOps.cmpf .ogt (FloatOps.subf b a) s0) 0#32 1#32
  else if c = 1 then
    Scalar.select (IntOp.andi (FloatOps.cmpf .ogt (FloatOps.subf b a) s0) (IntOp.xori (FloatOps.cmpf .ogt (FloatOps.subf b a) s1) 1#1)) 1#32 0#32
  else Scalar.select (FloatOps.cmpf .ogt (FloatOps.subf b a) s1) 1#32 0#32

/-- Element `p` of a flat output, from the flat input `x` and the lanes of the splits. -/
def binWord (x s0 s1 : ℕ → F .f32) (p : ℕ) : BitVec 32 :=
  word (s0 (p / 3 % 16)) (s1 (p / 3 % 16)) (x (2 * (p / 3))) (x (2 * (p / 3) + 1)) (p % 3)

/-- The word at column `c` of row `r`. -/
theorem binWord_at (x s0 s1 : ℕ → F .f32) (r c : ℕ) (hc : c < 3) :
    binWord x s0 s1 (3 * r + c) = word (s0 (r % 16)) (s1 (r % 16)) (x (2 * r)) (x (2 * r + 1)) c := by
  unfold binWord
  rw [show (3 * r + c) / 3 = r by omega, show (3 * r + c) % 3 = c by omega]

/-- A chunk of rows starting at a multiple of sixteen: its words are the words of the whole array at the chunk's place. -/
theorem binWord_shift (x y s0 s1 : ℕ → F .f32) (n : ℕ) (p : ℕ)
    (hy : ∀ k, k < 2 * (p / 3) + 2 → y k = x (32 * n + k)) : binWord y s0 s1 p = binWord x s0 s1 (48 * n + p) := by
  have h3 : (48 * n + p) / 3 = 16 * n + p / 3 := by omega
  unfold binWord
  rw [h3, show (16 * n + p / 3) % 16 = p / 3 % 16 by omega, show (48 * n + p) % 3 = p % 3 by omega,
    hy _ (by omega), hy _ (by omega), show 32 * n + 2 * (p / 3) = 2 * (16 * n + p / 3) by omega,
    show 32 * n + (2 * (p / 3) + 1) = 2 * (16 * n + p / 3) + 1 by omega]

/-! ## Flat arrays read at a number -/

/-- Position `n` of a flat array of `N` elements (`n` taken modulo `N`, so that every number names a position). -/
def at1 (N : ℕ) (h : 0 < N) (n : ℕ) : (⟨1, ![N]⟩ : Shape).Idx :=
  fun a => ⟨n % N, by rw [Fin.eq_zero a]; exact Nat.mod_lt _ h⟩

/-- A flat array as a function of the position's number. -/
def rd {α : Type} {N : ℕ} (h : 0 < N) (f : (⟨1, ![N]⟩ : Shape).Idx → α) (n : ℕ) : α := f (at1 N h n)

/-- The position with an index's number is that index. -/
theorem at1_val {N : ℕ} (h : 0 < N) (i : (⟨1, ![N]⟩ : Shape).Idx) : at1 N h (i 0).val = i := by
  funext a; apply Fin.ext
  rw [Fin.eq_zero a]
  exact Nat.mod_eq_of_lt (i 0).isLt

/-- Reading at an index's number is reading at the index. -/
theorem rd_val {α : Type} {N : ℕ} (h : 0 < N) (f : (⟨1, ![N]⟩ : Shape).Idx → α) (i : (⟨1, ![N]⟩ : Shape).Idx) : rd h f (i 0).val = f i := by
  unfold rd; rw [at1_val]

/-- The same, the number named. -/
theorem rd_of_val {α : Type} {N : ℕ} (h : 0 < N) (f : (⟨1, ![N]⟩ : Shape).Idx → α) (i : (⟨1, ![N]⟩ : Shape).Idx) {n : ℕ} (e : (i 0).val = n) :
    f i = rd h f n := by
  rw [← e, rd_val]

/-- A lane of a sixteen-lane vector, by number. -/
abbrev lane (j : ℕ) : (⟨1, ![16]⟩ : Shape).Idx := at1 16 (by decide) j

/-! ## The indexed store -/

/-- An indexed store of sixteen lanes, all set and none adding, at an element `i`: the word `w` stays there, if every lane
    that names `i` carries `w`, and either some lane does or `w` was there before. -/
theorem storeIdx_eq {s : Shape} {e : EltTy} {d : Fin 1 → ℕ} (f : Vec F s e) (idxs : Fin s.rank → IVec ⟨1, d⟩ 32) (v : Vec F ⟨1, d⟩ e)
    (h : ∀ a x, (idxs a x).toNat < s.size a) (i : s.Idx) (w : Elt F e)
    (hv : ∀ k : Fin (d 0), (∀ a, (i a).val = (idxs a (Shape.ofLane k)).toNat) → v (Shape.ofLane k) = w)
    (hw : f i = w ∨ ∃ k : Fin (d 0), ∀ a, (i a).val = (idxs a (Shape.ofLane k)).toNat) :
    storeIdx f idxs v (fun _ => 1#1) false h i = w := by
  have key : ∀ (l : List (Fin (d 0))) (g : Vec F s e),
      (g i = w ∨ ∃ k ∈ l, ∀ a, (i a).val = (idxs a (Shape.ofLane k)).toNat) →
      l.foldl (fun g k =>
        let x := Shape.ofLane k
        if (fun _ => 1#1 : IVec ⟨1, d⟩ 1) x = 1 then
          let i := idxAt idxs h x
          let y := if false = true then Elt.idxAdd e (g i) (v x) else v x
          fun j => if (∀ a, (j a).val = (i a).val) then y else g j
        else g) g i = w := by
    intro l
    induction l with
    | nil =>
      intro g hg
      rcases hg with hg | ⟨k, hk, -⟩
      · exact hg
      · exact absurd hk (List.not_mem_nil)
    | cons k l ih =>
      intro g hg
      rw [List.foldl_cons]
      apply ih
      by_cases hk : ∀ a, (i a).val = (idxs a (Shape.ofLane k)).toNat
      · left
        show (if (∀ a, (i a).val = (idxs a (Shape.ofLane k)).toNat) then v (Shape.ofLane k) else g i) = w
        rw [if_pos hk]; exact hv k hk
      · rcases hg with hg | ⟨k', hk', hn⟩
        · left
          show (if (∀ a, (i a).val = (idxs a (Shape.ofLane k)).toNat) then v (Shape.ofLane k) else g i) = w
          rw [if_neg hk]; exact hg
        · right
          rcases List.mem_cons.mp hk' with rfl | hk'
          · exact absurd hn hk
          · exact ⟨k', hk', hn⟩
  exact key (List.finRange (d 0)) f (hw.imp_right fun ⟨k, hk⟩ => ⟨k, List.mem_finRange k, hk⟩)

end Cert.Proof.Words

end
-- ==== Proof.Trip.lean ====
/-
  One trip of the inner loop, as arithmetic: trip `t` reads sixteen rows of the staged input chunk (rows `16t .. 16t + 15`, their two
  halves by two indexed loads) and writes their forty-eight words into the staged output chunk by three indexed stores. The words'
  positions are computed in 32-bit arithmetic; here they are shown to be the numbers they look like, in bounds, and the three stores
  are shown to extend by forty-eight the part of the output chunk that already holds its final words.
-/
module

public import proofs.«01_k».proof.Proof.Words
public import proofs.«01_k».proof.Proof.Gen.KernelIdeal.Skeleton

@[expose] public section

noncomputable section

namespace Cert.Proof.KernelIdeal

open Cert.KernelIdeal Cert.KernelIdeal.Gen Cert.Proof.Words
open Idealize.ShloMosaic

variable {F : FTy → Type} [FloatOps F]

/-! ## The loops' counts -/

/-- A task has 32 chunks. -/
theorem trips1 : k0_t1_loop.trips = 32 := by decide

/-- A chunk has 512 groups of sixteen rows. -/
theorem trips2 : k0_t2_loop.trips = 512 := by decide

/-! ## The positions -/

/-- The first half of lane `x`'s row: element `32t + 2x` of the staged chunk. -/
theorem pay1_toNat (t : Fin k0_t2_loop.trips) (x : S16.Idx) : (k0_pay1 t x).toNat = 32 * t.val + 2 * (x 0).val := by
  have ht : t.val < 512 := lt_of_lt_of_eq t.isLt trips2
  have hx : (x 0).val < 16 := (x 0).isLt
  show (BitVec.ofNat 32 (0 * 16 + (x 0).val) * 2#32 + (0#32 + BitVec.ofNat 32 t.val * 1#32) * 32#32).toNat = _
  simp only [BitVec.toNat_add, BitVec.toNat_mul, BitVec.toNat_ofNat]
  omega

/-- The first word of lane `x`'s row: element `48t + 3x` of the staged output. -/
theorem pay9_toNat (t : Fin k0_t2_loop.trips) (x : S16.Idx) : (k0_pay9 t x).toNat = 48 * t.val + 3 * (x 0).val + 0 := by
  have ht : t.val < 512 := lt_of_lt_of_eq t.isLt trips2
  have hx : (x 0).val < 16 := (x 0).isLt
  show (BitVec.ofNat 32 (0 * 16 + (x 0).val) * 3#32 + (0#32 + BitVec.ofNat 32 t.val * 1#32) * 48#32).toNat = _
  simp only [BitVec.toNat_add, BitVec.toNat_mul, BitVec.toNat_ofNat]
  omega

/-- A small number added to a small word is added to its value. -/
theorem bump {v : BitVec 32} {n : ℕ} (e : ℕ) (hv : v.toNat = n) (h : n + e < 2 ^ 32) : (v + BitVec.ofNat 32 e).toNat = n + e := by
  rw [BitVec.toNat_add, hv, BitVec.toNat_ofNat]
  omega

/-- A place `s t + k x + e` named by trip `t` and lane `x` is below whatever the last trip's last lane is below. -/
theorem place_lt (t : Fin k0_t2_loop.trips) (x : S16.Idx) (s k e : ℕ) {N : ℕ} (h : s * 511 + k * 15 + e < N) : s * t.val + k * (x 0).val + e < N := by
  have ht : t.val < 512 := lt_of_lt_of_eq t.isLt trips2
  have hx : (x 0).val < 16 := (x 0).isLt
  have h1 : s * t.val ≤ s * 511 := Nat.mul_le_mul_left s (by omega)
  have h2 : k * (x 0).val ≤ k * 15 := Nat.mul_le_mul_left k (by omega)
  omega

/-- The second half of lane `x`'s row. -/
theorem pay2_toNat (t : Fin k0_t2_loop.trips) (x : S16.Idx) : (k0_pay2 (k0_pay1 t) x).toNat = 32 * t.val + 2 * (x 0).val + 1 :=
  bump 1 (pay1_toNat t x) (place_lt t x 32 2 1 (by decide))

/-- The second word of lane `x`'s row. -/
theorem pay10_toNat (t : Fin k0_t2_loop.trips) (x : S16.Idx) : (k0_pay10 (k0_pay9 t) x).toNat = 48 * t.val + 3 * (x 0).val + 1 :=
  bump 1 (pay9_toNat t x) (place_lt t x 48 3 1 (by decide))

/-- The third word of lane `x`'s row. -/
theorem pay11_toNat (t : Fin k0_t2_loop.trips) (x : S16.Idx) : (k0_pay11 (k0_pay9 t) x).toNat = 48 * t.val + 3 * (x 0).val + 2 :=
  bump 2 (pay9_toNat t x) (place_lt t x 48 3 2 (by decide))

/-! ## The accesses are in bounds -/

/-- Sixteen words, lane `x`'s the number `s t + k x + e`, as the one axis' positions of an access to an array of `N` elements, are in bounds
    if the last trip's last lane is. -/
theorem in_bounds {v : IVec S16 32} {N : ℕ} (s k e : ℕ) (t : Fin k0_t2_loop.trips) (hv : ∀ x : S16.Idx, (v x).toNat = s * t.val + k * (x 0).val + e)
    (h : s * 511 + k * 15 + e < N) :
    ∀ (a : Fin (⟨1, ![N]⟩ : Shape).rank) (x : S16.Idx), ((![v] : Fin 1 → IVec S16 32) a x).toNat < (⟨1, ![N]⟩ : Shape).size a := by
  intro a x
  rw [Fin.eq_zero a]
  show (v x).toNat < N
  rw [hv]; exact place_lt t x s k e h

/-- The load of the rows' first halves. -/
theorem chk1 (t : Fin k0_t2_loop.trips) : k0_chk1 (k0_pay1 t) := in_bounds (N := 16384) 32 2 0 t (pay1_toNat t) (by decide)

/-- The load of the rows' second halves. -/
theorem chk2 (t : Fin k0_t2_loop.trips) : k0_chk2 (k0_pay2 (k0_pay1 t)) := in_bounds (N := 16384) 32 2 1 t (pay2_toNat t) (by decide)

/-- The store of the rows' first words. -/
theorem chk3 (t : Fin k0_t2_loop.trips) : k0_chk3 (k0_pay9 t) := in_bounds (N := 24576) 48 3 0 t (pay9_toNat t) (by decide)

/-- The store of the rows' second words. -/
theorem chk4 (t : Fin k0_t2_loop.trips) : k0_chk4 (k0_pay10 (k0_pay9 t)) := in_bounds (N := 24576) 48 3 1 t (pay10_toNat t) (by decide)

/-- The store of the rows' third words. -/
theorem chk5 (t : Fin k0_t2_loop.trips) : k0_chk5 (k0_pay11 (k0_pay9 t)) := in_bounds (N := 24576) 48 3 2 t (pay11_toNat t) (by decide)

/-! ## What the loads read and the stores leave -/

/-- An indexed load whose lane `x` names element `n x` reads element `n x`. -/
theorem load_lane {v : IVec S16 32} (xin : Vec F S16384 .f32) (h : ∀ a x, ((![v] : Fin 1 → IVec S16 32) a x).toNat < S16384.size a) (x : S16.Idx) (n : ℕ)
    (hv : (v x).toNat = n) : loadIdx xin ![v] h x = rd (N := 16384) (by decide) xin n :=
  rd_of_val (N := 16384) (by decide) xin (idxAt (s := S16384) ![v] h x) hv

/-- An indexed store whose lane `x` names element `48t + 3x + c`: the elements of column `c` in the trip's forty-eight take the
    lanes' words, every other element stays. -/
theorem store_col {v : IVec S16 32} (f : Vec F S24576 .i32) (u : IVec S16 32) (h : ∀ a x, ((![v] : Fin 1 → IVec S16 32) a x).toNat < S24576.size a)
    (t c : ℕ) (hc : c < 3) (hv : ∀ x : S16.Idx, (v x).toNat = 48 * t + 3 * (x 0).val + c) (i : S24576.Idx) :
    storeIdx f ![v] u (fun _ => 1#1) false h i =
      if 48 * t ≤ (i 0).val ∧ (i 0).val < 48 * (t + 1) ∧ (i 0).val % 3 = c then u (lane (((i 0).val - 48 * t) / 3)) else f i := by
  have hname : ∀ k : Fin 16, (∀ a, (i a).val = ((![v] : Fin 1 → IVec S16 32) a (Shape.ofLane (d := ![16]) k)).toNat) →
      (i 0).val = 48 * t + 3 * k.val + c := fun k hk => (hk 0).trans (hv _)
  have hlane : ∀ k : Fin 16, lane k.val = Shape.ofLane (d := ![16]) k := fun k => at1_val (N := 16) (by decide) (Shape.ofLane (d := ![16]) k)
  refine storeIdx_eq f ![v] u h i _ (fun k hk => ?_) ?_
  · have hi := hname k hk
    have hk16 : k.val < 16 := k.isLt
    rw [if_pos (by omega), show ((i 0).val - 48 * t) / 3 = k.val by omega, hlane k]
  · by_cases hin : 48 * t ≤ (i 0).val ∧ (i 0).val < 48 * (t + 1) ∧ (i 0).val % 3 = c
    · right
      have hlt : ((i 0).val - 48 * t) / 3 < 16 := by omega
      refine ⟨(⟨((i 0).val - 48 * t) / 3, hlt⟩ : Fin 16), fun a => ?_⟩
      rw [Fin.eq_zero a]
      refine Eq.trans ?_ (hv _).symm
      show (i 0).val = 48 * t + 3 * (((i 0).val - 48 * t) / 3) + c
      omega
    · left; rw [if_neg hin]

/-- The first `n` words of a staged output chunk are final. -/
def Done (x s0 s1 : ℕ → F .f32) (n : ℕ) (f : Vec F S24576 .i32) : Prop := ∀ i : S24576.Idx, (i 0).val < n → f i = binWord x s0 s1 (i 0).val

/-- No word need be final at the start. -/
theorem done_zero (x s0 s1 : ℕ → F .f32) (f : Vec F S24576 .i32) : Done x s0 s1 0 f := fun _ h => absurd h (Nat.not_lt_zero _)

/-- One trip makes forty-eight more words final. -/
theorem trip_done (xin : Vec F S16384 .f32) (v3 v4 : Vec F S16 .f32) (f : Vec F S24576 .i32) (t : Fin k0_t2_loop.trips)
    (h1 : ∀ a x, ((![k0_pay1 t] : Fin 1 → IVec S16 32) a x).toNat < S16384.size a)
    (h2 : ∀ a x, ((![k0_pay2 (k0_pay1 t)] : Fin 1 → IVec S16 32) a x).toNat < S16384.size a)
    (h3 : ∀ a x, ((![k0_pay9 t] : Fin 1 → IVec S16 32) a x).toNat < S24576.size a)
    (h4 : ∀ a x, ((![k0_pay10 (k0_pay9 t)] : Fin 1 → IVec S16 32) a x).toNat < S24576.size a)
    (h5 : ∀ a x, ((![k0_pay11 (k0_pay9 t)] : Fin 1 → IVec S16 32) a x).toNat < S24576.size a)
    (hf : Done (rd (N := 16384) (by decide) xin) (rd (N := 16) (by decide) v3) (rd (N := 16) (by decide) v4) (48 * t.val) f) :
    Done (rd (N := 16384) (by decide) xin) (rd (N := 16) (by decide) v3) (rd (N := 16) (by decide) v4) (48 * (t.val + 1))
      (storeIdx (storeIdx (storeIdx f ![k0_pay9 t] (k0_pay6 v3 (loadIdx xin ![k0_pay1 t] h1) (loadIdx xin ![k0_pay2 (k0_pay1 t)] h2)) (fun _ => 1#1) false h3)
        ![k0_pay10 (k0_pay9 t)] (k0_pay7 v3 v4 (loadIdx xin ![k0_pay1 t] h1) (loadIdx xin ![k0_pay2 (k0_pay1 t)] h2)) (fun _ => 1#1) false h4)
        ![k0_pay11 (k0_pay9 t)] (k0_pay8 v4 (loadIdx xin ![k0_pay1 t] h1) (loadIdx xin ![k0_pay2 (k0_pay1 t)] h2)) (fun _ => 1#1) false h5) := by
  intro i hi
  rw [store_col _ _ h5 t.val 2 (by decide) (pay11_toNat t), store_col _ _ h4 t.val 1 (by decide) (pay10_toNat t),
    store_col _ _ h3 t.val 0 (by decide) (pay9_toNat t)]
  by_cases hlo : 48 * t.val ≤ (i 0).val
  · obtain ⟨j, c, hj, hc, e⟩ : ∃ j c, j < 16 ∧ c < 3 ∧ (i 0).val = 3 * (16 * t.val + j) + c :=
      ⟨((i 0).val - 48 * t.val) / 3, (i 0).val % 3, by omega, by omega, by omega⟩
    have hl : ((i 0).val - 48 * t.val) / 3 = j := by omega
    have hx0 : ((lane j) 0).val = j := Nat.mod_eq_of_lt hj
    have ha := load_lane xin h1 (lane j) (2 * (16 * t.val + j)) (by rw [pay1_toNat, hx0]; omega)
    have hb := load_lane xin h2 (lane j) (2 * (16 * t.val + j) + 1) (by rw [pay2_toNat, hx0]; omega)
    have hs : ∀ v : Vec F S16 .f32, v (lane j) = rd (N := 16) (by decide) v ((16 * t.val + j) % 16) := fun v =>
      rd_of_val (N := 16) (by decide) v (lane j) (by rw [hx0]; omega)
    rw [hl, e, binWord_at _ _ _ _ _ hc, ← ha, ← hb, ← hs v3, ← hs v4]
    rcases (show c = 0 ∨ c = 1 ∨ c = 2 by omega) with rfl | rfl | rfl
    · rw [if_neg (by omega), if_neg (by omega), if_pos (by omega)]; rfl
    · rw [if_neg (by omega), if_pos (by omega)]; rfl
    · rw [if_pos (by omega)]; rfl
  · rw [if_neg (by omega), if_neg (by omega), if_neg (by omega)]
    exact hf i (by omega)

end Cert.Proof.KernelIdeal

end
-- ==== Proof.Setup.lean ====
/-
  The launch as the logic sees it: the program's one vector-subcore call on two SparseCores of sixteen subcores, the arrays it moves
  between, and each subcore's own buffers and semaphores, spelt as its program spells them.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Trip

@[expose] public section

noncomputable section

namespace Cert.Proof.KernelIdeal

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The program's labels, its SparseCore configuration, its bodies, and no measures on loops (every loop is counted). -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs sixteen tasks on each of its SparseCores. -/
theorem nSub_zero : (K (F := F)).nSub 0 = 16 := rfl
/-- The call runs on two SparseCores. -/
theorem nCore_zero : (K (F := F)).nCore 0 = 2 := rfl

/-- The handshake's four semaphores are distinct where they must be, none is scoped, and no subcore shares its task memory. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, and counters for the copies. -/
abbrev UH : Type := URounds (GSem nD τ sig) ℕ
abbrev UU : Type := UH × Counters

local notation "𝕄" => MT nD τ sig (HIx 1) (Elt F) ℕ UU ℕ

/-- The handshakes' rounds in the whole resource algebra. -/
abbrev EH : Emb UH (MT nD τ sig (HIx 1) (Elt F) ℕ UU ℕ) := embL

/-! ## The arrays and the memrefs over them -/

/-- The flat input, the two splits' sixteen-lane copies and the flat output, as locations of device `d`. -/
abbrev xLoc (d : Dev nD) : Loc nD τ sig := (SparseCore.T d).loc main_v0
abbrev aLoc (d : Dev nD) : Loc nD τ sig := (SparseCore.T d).loc main_v3
abbrev bLoc (d : Dev nD) : Loc nD τ sig := (SparseCore.T d).loc main_v6
abbrev oLoc (d : Dev nD) : Loc nD τ sig := (SparseCore.T d).loc main_v7

/-- The same four arrays as the kernel's operands; then its scratch: a staged input chunk, a staged output chunk, the two splits' lanes. -/
abbrev xV : Memref sig .scVector .hbm S16777216 .f32 := Memref.whole main_v0_scv
abbrev aV : Memref sig .scVector .hbm S16 .f32 := Memref.whole main_v3_scv
abbrev bV : Memref sig .scVector .hbm S16 .f32 := Memref.whole main_v6_scv
abbrev oV : Memref sig .scVector .hbm S25165824 .i32 := Memref.whole main_v7_scv
abbrev sX : Memref sig .scVector .vmem S16384 .f32 := Memref.whole cc0_scratch0
abbrev sY : Memref sig .scVector .vmem S24576 .i32 := Memref.whole cc0_scratch1
abbrev sA : Memref sig .scVector .vmem S16 .f32 := Memref.whole cc0_scratch2
abbrev sB : Memref sig .scVector .vmem S16 .f32 := Memref.whole cc0_scratch3

/-- The task's SparseCore and subcore. -/
abbrev cV (L : grid0.Coords) : Fin τ.nSC := (L 0).castLE hcore0
abbrev jV (L : grid0.Coords) : Fin τ.nSub := (L 1).castLE hsub0

/-- The task at SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Chunk `k` of task `L` in the input and in the output. -/
abbrev xRect (L : grid0.Coords) (k : Fin k0_t1_loop.trips) : Rect S16777216 := Rect.unit (s := S16777216) (k0_off1 L k) S16384.size (k0_off1_inb L k)
abbrev oRect (L : grid0.Coords) (k : Fin k0_t1_loop.trips) : Rect S25165824 := Rect.unit (s := S25165824) (k0_off2 L k) S24576.size (k0_off2_inb L k)
abbrev xChunk (L : grid0.Coords) (k : Fin k0_t1_loop.trips) : Memref sig .scVector .hbm S16384 .f32 := (xV).slice (xRect L k) (fun _ => rfl)
abbrev oChunk (L : grid0.Coords) (k : Fin k0_t1_loop.trips) : Memref sig .scVector .hbm S24576 .i32 := (oV).slice (oRect L k) (fun _ => rfl)

/-! ## Each subcore's own semaphores and buffers -/

section Own

variable (d : Dev nD) (L : grid0.Coords)

/-- The four semaphores of a subcore's copies. -/
abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

/-- The subcore's semaphores at zero are its four copies' semaphores at zero, and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase
              (cell3 d (cV L) (jV L))) fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide, (mem_ownCells (g := cell3 d (cV L) (jV L))).mpr ⟨rfl, by
        show (SemLoc.dma cc0_scoped3.sem : SemLoc sig).isScoped .scVector = true; decide⟩⟩⟩⟩)]

/-- The device buffer a subcore's reference names. -/
abbrev own (L : grid0.Coords) (b : Ref sig .scVector) : DevRef τ sig := (Proc.scVector (cV L) (jV L)).devRef b

/-- A buffer of the subcore's own is still among its buffers after another of its own is taken out. -/
theorem own_erase {L : grid0.Coords} {b b' : Ref sig .scVector} {s : Finset (DevRef τ sig)} (h : b ≠ b') (hb : own L b ∈ s) : own L b ∈ s.erase (own L b') :=
  Finset.mem_erase.mpr ⟨fun e => absurd (Proc.devRef_injective _ e) h, hb⟩

/-- The subcore's buffers are its four scratches, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (own L cc0_scratch0)).erase (own L cc0_scratch1)).erase (own L cc0_scratch2)).erase
              (own L cc0_scratch3)) fun b => iprop(∃ f, ((d, b) : Loc nD τ sig) ↦{fullShare} f)) := by
  have hmem : ∀ b : Ref sig .scVector, (own L b).owner = _ → own L b ∈ ownRefs (τ := τ) (.scVector (cV L) (jV L)) :=
    fun b hb => SparseCore.Cfg.mem_ownRefs_of_owner (p := Proc.scVector (cV L) (jV L)) (b := own L b) hb
  unfold SparseCore.Cfg.ownBufs
  refine (SparseCore.bigSep_erase' (hmem cc0_scratch0 rfl)).trans ?_
  rw [SparseCore.bigSep_erase' (own_erase (b := cc0_scratch1) (b' := cc0_scratch0) (by decide) (hmem _ rfl)),
    SparseCore.bigSep_erase' (own_erase (b := cc0_scratch2) (b' := cc0_scratch1) (by decide) (own_erase (by decide) (hmem _ rfl))),
    SparseCore.bigSep_erase' (own_erase (b := cc0_scratch3) (b' := cc0_scratch2) (by decide) (own_erase (by decide) (own_erase (by decide) (hmem _ rfl))))]

end Own

end Cert.Proof.KernelIdeal

end
-- ==== Proof.Inner.lean ====
/-
  The inner loop run: 512 trips over the staged chunk, each reading sixteen rows and writing their forty-eight words, by the indexed
  loads' and stores' rules and the arithmetic of a trip.
-/
module

public import proofs.«01_k».proof.Proof.Setup

@[expose] public section

noncomputable section

namespace Cert.Proof.KernelIdeal

open Cert.KernelIdeal Cert.KernelIdeal.Gen Cert.Proof.Words

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Every number names an element of a staged input chunk, a lane of a register: the two arrays as functions of a number. -/
abbrev rdX (f : Vec F S16384 .f32) : ℕ → F .f32 := rd (N := 16384) (by decide) f
abbrev rdS (f : Vec F S16 .f32) : ℕ → F .f32 := rd (N := 16) (by decide) f

/-- One trip of the inner loop: from forty-eight times `t` final words to forty-eight more. -/
theorem inner_trip (v3 v4 : Vec F S16 .f32) (xin : Vec F S16384 .f32) (f : Vec F S24576 .i32) (t : Fin k0_t2_loop.trips)
    (hf : Done (rdX xin) (rdS v3) (rdS v4) (48 * t.val) f) :
    iprop(((sX).view.loc (V d (cV L) (jV L)) ↦{fullShare} xin) ∗ ((sY).view.loc (V d (cV L) (jV L)) ↦{fullShare} f))
      ⊢ (wp frame (wpE (defs₀ (F := F)) 𝒱₀ (V d (cV L) (jV L)) none) Set.univ
          (k0_t2_body L xV (Memref.isWhole_whole _) aV (Memref.isWhole_whole _) bV (Memref.isWhole_whole _) oV (Memref.isWhole_whole _)
            sX (Memref.isWhole_whole _) sY (Memref.isWhole_whole _) sA (Memref.isWhole_whole _) sB (Memref.isWhole_whole _)
            cc0_scoped0 cc0_scoped1 cc0_scoped2 cc0_scoped3 v3 v4 t ⟨⟩)
          fun _ => iprop(((sX).view.loc (V d (cV L) (jV L)) ↦{fullShare} xin)
            ∗ ∃ f', ⌜Done (rdX xin) (rdS v3) (rdS v4) (48 * (t.val + 1)) f'⌝ ∗ ((sY).view.loc (V d (cV L) (jV L)) ↦{fullShare} f')) : sProp 𝕄) := by
  have hY : ∀ g : Vec F S24576 .i32, (((sY).view.loc (V d (cV L) (jV L)) ↦{fullShare} g : sProp 𝕄))
      = (((sY).access (.whole S24576)).loc (V d (cV L) (jV L)) ↦[((sY).access (.whole S24576)).set]{fullShare} g) := fun g => by
    have e : ((sY).access (.whole S24576)).set = Finset.univ := Memref.set_access_whole cc0_scratch1
    rw [e]
  have hX : ∀ g : Vec F S16384 .f32, (((sX).view.loc (V d (cV L) (jV L)) ↦{fullShare} g : sProp 𝕄))
      = (((sX).access (.whole S16384)).loc (V d (cV L) (jV L)) ↦{fullShare} g) := fun g => rfl
  have rX : ((sX).access (.whole S16384)).read (Elt F) xin = xin := Memref.read_access_whole (Elt F) cc0_scratch0 xin
  have rY : ∀ g : Vec F S24576 .i32, ((sY).access (.whole S24576)).read (Elt F) g = g := fun g => Memref.read_access_whole (Elt F) cc0_scratch1 g
  have wY : ∀ g w : Vec F S24576 .i32, ((sY).access (.whole S24576)).write (Elt F) g w Finset.univ = w :=
    fun g w => Memref.write_access_whole_univ (Elt F) cc0_scratch1 g w
  unfold k0_t2_body
  simp only [Prog.lift, Prog.bind_op, Prog.bind_ret, Prog.pure_eq_ret]
  iintro ⟨Hx, Hy⟩
  ihave Hx := (Entails.of_eq (hX _)) $$ Hx
  ihave Hy := (Entails.of_eq (hY _)) $$ Hy
  rw [wp_assume_of _ _ _ _ (chk1 t)]
  iapply (SparseCore.wp_vectorLoadIdx 𝒱₀ (V d (cV L) (jV L)) none Set.univ (base := sX) (S := Finset.univ) (q := fullShare) (Finset.subset_univ _)) $$ Hx
  iintro Hx
  rw [wp_assume_of _ _ _ _ (chk2 t)]
  iapply (SparseCore.wp_vectorLoadIdx 𝒱₀ (V d (cV L) (jV L)) none Set.univ (base := sX) (S := Finset.univ) (q := fullShare) (Finset.subset_univ _)) $$ Hx
  iintro Hx
  rw [wp_assume_of _ _ _ _ (chk3 t)]
  iapply (SparseCore.wp_vectorStoreIdx 𝒱₀ (V d (cV L) (jV L)) none Set.univ (base := sY)) $$ Hy
  iintro Hy
  rw [wp_assume_of _ _ _ _ (chk4 t)]
  iapply (SparseCore.wp_vectorStoreIdx 𝒱₀ (V d (cV L) (jV L)) none Set.univ (base := sY)) $$ Hy
  iintro Hy
  rw [wp_assume_of _ _ _ _ (chk5 t)]
  iapply (SparseCore.wp_vectorStoreIdx 𝒱₀ (V d (cV L) (jV L)) none Set.univ (base := sY)) $$ Hy
  iintro Hy
  rw [wp_ret]; imodintro
  isplitl [Hx]; · iexact Hx
  ihave Hy := (Entails.of_eq (hY _).symm) $$ Hy
  iexists _
  isplitr
  rotate_left
  · iexact Hy
  ipureintro
  rw [rX, wY, wY, wY, rY, rY, rY]
  exact trip_done xin v3 v4 f t _ _ _ _ _ hf

end Cert.Proof.KernelIdeal

end
-- ==== Proof.Outer.lean ====
/-
  One trip of the outer loop run: a chunk of the input copied in, the inner loop over it, the staged words copied out to the
  output's chunk.
-/
module

public import proofs.«01_k».proof.Proof.Inner

@[expose] public section

noncomputable section

namespace Cert.Proof.KernelIdeal

open Cert.KernelIdeal Cert.KernelIdeal.Gen Cert.Proof.Words

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The flat input as a function of a number. -/
abbrev rdI (X : Vec F S16777216 .f32) : ℕ → F .f32 := rd (N := 16777216) (by decide) X

/-- The flat output the kernel writes, from the flat input and the splits' lanes. -/
def OUT (X : Vec F S16777216 .f32) (v3 v4 : Vec F S16 .f32) : Vec F S25165824 .i32 := fun i => binWord (rdI X) (rdS v3) (rdS v4) (i 0).val

/-- The staged input chunk of task `L`, trip `k`: the input from the chunk's first element. -/
def chunkIn (X : Vec F S16777216 .f32) (k : Fin k0_t1_loop.trips) : Vec F S16384 .f32 := (xChunk L k).view.read (Elt F) X

/-- How many sixteen-row groups come before chunk `k` of task `L`. -/
def group (k : Fin k0_t1_loop.trips) : ℕ := 32768 * (L 1).val + 16384 * (L 0).val + 512 * k.val

/-- Element `j` of the staged input chunk is element `32 · group + j` of the input. -/
theorem chunkIn_apply (X : Vec F S16777216 .f32) (k : Fin k0_t1_loop.trips) (n : ℕ) (hn : n < 16384) :
    rdX (chunkIn L X k) n = rdI X (32 * group L k + n) := by
  refine rd_of_val (N := 16777216) (by decide) X ((xRect L k).emb (at1 16384 (by decide) n)) ?_
  show (k0_off1 L k) 0 + 1 * (n % 16384) = _
  rw [k0_off1_eq, Nat.mod_eq_of_lt hn]
  show 1048576 * (L 1).val + 524288 * (L 0).val + 16384 * k.val + 1 * n = _
  unfold group; omega

/-- Element `j` of the output's chunk sits at `48 · group + j`. -/
theorem oRect_emb (k : Fin k0_t1_loop.trips) (j : S24576.Idx) : ((oRect L k).emb j 0).val = 48 * group L k + (j 0).val := by
  show (k0_off2 L k) 0 + 1 * (j 0).val = _
  rw [k0_off2_eq]
  show 1572864 * (L 1).val + 786432 * (L 0).val + 24576 * k.val + 1 * (j 0).val = _
  unfold group; omega

/-- A staged output chunk all of whose words are final is the output on the chunk. -/
theorem done_out (X : Vec F S16777216 .f32) (v3 v4 : Vec F S16 .f32) (k : Fin k0_t1_loop.trips) (f : Vec F S24576 .i32)
    (hf : Done (rdX (chunkIn L X k)) (rdS v3) (rdS v4) 24576 f) (j : S24576.Idx) : f j = OUT X v3 v4 ((oRect L k).emb j) := by
  have hj : (j 0).val < 24576 := (j 0).isLt
  rw [hf j hj]
  unfold OUT
  rw [oRect_emb]
  exact binWord_shift _ _ _ _ (group L k) _ fun n hn => chunkIn_apply L X k n (by omega)

/-- What the inner loop keeps: the staged input, and the first `48 t` words of the staged output final. -/
def innerInv (v3 v4 : Vec F S16 .f32) (xin : Vec F S16384 .f32) (t : Nat) (_ : PUnit) : sProp 𝕄 :=
  iprop(((sX).view.loc (V d (cV L) (jV L)) ↦{fullShare} xin)
    ∗ ∃ f, ⌜Done (rdX xin) (rdS v3) (rdS v4) (48 * t) f⌝ ∗ ((sY).view.loc (V d (cV L) (jV L)) ↦{fullShare} f))

/-- After the copy in, the staged input is the input's chunk, whatever it held before. -/
theorem landed_in (X : Vec F S16777216 .f32) (k : Fin k0_t1_loop.trips) (fx w : Vec F S16384 .f32) (hw : w = chunkIn L X k) :
    ((sX).view.loc (V d (cV L) (jV L)) ↦{fullShare} View.write (Elt F) (sX).view fx w Finset.univ : sProp 𝕄)
      = ((sX).view.loc (V d (cV L) (jV L)) ↦{fullShare} chunkIn L X k) := by
  have h : View.write (Elt F) (sX).view fx w Finset.univ = w := View.write_whole_univ (Val := Elt F) (cc0_scratch0 : Ref sig .scVector) fx w
  rw [h, hw]

/-- After the copy out, the output's chunk holds the output's words, if every staged word was final. -/
theorem landed_out (X : Vec F S16777216 .f32) (v3 v4 : Vec F S16 .f32) (k : Fin k0_t1_loop.trips) (g : Vec F S25165824 .i32) (f w : Vec F S24576 .i32)
    (hf : Done (rdX (chunkIn L X k)) (rdS v3) (rdS v4) 24576 f) (hw : w = f) :
    ((oChunk L k).view.loc (V d (cV L) (jV L)) ↦[(oChunk L k).view.set]{fullShare} (oChunk L k).view.writes (Elt F) g [⟨Rect.whole S24576, w⟩] : sProp 𝕄)
      = ((oChunk L k).view.loc (V d (cV L) (jV L)) ↦[(oChunk L k).view.set]{fullShare} OUT X v3 v4) := by
  subst hw
  refine pointsTo_congr fun i hi => ?_
  obtain ⟨j, -, rfl⟩ := Finset.mem_map.mp hi
  have e : ((oChunk L k).view.slice (Rect.whole S24576)).emb j = (oChunk L k).view.emb j :=
    congrArg (oChunk L k).view.emb (Rect.emb_whole_apply S24576 j)
  rw [View.writes_singleton, ← e]
  exact (View.write_emb_of_mem (v := (oChunk L k).view.slice (Rect.whole S24576)) (Val := Elt F) g w (Finset.mem_univ j)).trans
    ((done_out L X v3 v4 k w hf j).trans (congrArg (OUT X v3 v4) e.symm))

/-- One trip of the outer loop: chunk `k` of the output ends at its final words; everything else is handed back. -/
theorem outer_trip (v3 v4 : Vec F S16 .f32) (X : Vec F S16777216 .f32) (q : PosShare TreeShare) (g : Vec F S25165824 .i32)
    (O : CellTallies nD τ sig (HIx 1)) (W : Waits sig (HIx 1)) (k : Fin k0_t1_loop.trips) :
    iprop(Transfers.MayWaits (V d (cV L) (jV L)) (default : HIx 1) O
        ∗ ((xV).view.loc (V d (cV L) (jV L)) ↦{q} X)
        ∗ ((oChunk L k).view.loc (V d (cV L) (jV L)) ↦[(oChunk L k).view.set]{fullShare} g)
        ∗ (∃ f, (sX).view.loc (V d (cV L) (jV L)) ↦{fullShare} f) ∗ (∃ f, (sY).view.loc (V d (cV L) (jV L)) ↦{fullShare} f)
        ∗ semVal (cell2 d (cV L) (jV L)) 0 ∗ semVal (cell3 d (cV L) (jV L)) 0 ∗ owes (V d (cV L) (jV L)) O W)
      ⊢ (wp frame (wpE (defs₀ (F := F)) 𝒱₀ (V d (cV L) (jV L)) none) Set.univ
          (k0_t1_body L xV (Memref.isWhole_whole _) aV (Memref.isWhole_whole _) bV (Memref.isWhole_whole _) oV (Memref.isWhole_whole _)
            sX (Memref.isWhole_whole _) sY (Memref.isWhole_whole _) sA (Memref.isWhole_whole _) sB (Memref.isWhole_whole _)
            cc0_scoped0 cc0_scoped1 cc0_scoped2 cc0_scoped3 v3 v4 k ⟨⟩)
          fun _ => iprop(((xV).view.loc (V d (cV L) (jV L)) ↦{q} X)
            ∗ ((oChunk L k).view.loc (V d (cV L) (jV L)) ↦[(oChunk L k).view.set]{fullShare} OUT X v3 v4)
            ∗ (∃ f, (sX).view.loc (V d (cV L) (jV L)) ↦{fullShare} f) ∗ (∃ f, (sY).view.loc (V d (cV L) (jV L)) ↦{fullShare} f)
            ∗ semVal (cell2 d (cV L) (jV L)) 0 ∗ semVal (cell3 d (cV L) (jV L)) 0
            ∗ ∃ W', ⌜∀ p ∈ W', p ∈ W ∨ p.2 = none⌝ ∗ owes (V d (cV L) (jV L)) O W') : sProp 𝕄) := by
  unfold k0_t1_body
  iintro ⟨Hmw, Hx, Ho, ⟨%fx, Hsx⟩, ⟨%fy, Hsy⟩, Hc2, Hc3, HO⟩
  sl_exec (disch := exact View.amount_pos _ _ (show 0 < S16384.numel by decide))
  -- the staged input is the input's chunk
  ihave Hsx := (Entails.of_eq (landed_in (F := F) d L X k fx (outer_trip.sl.dma0 L X k) rfl)) $$ Hsx
  sl_for (innerInv (F := F) d L v3 v4 (chunkIn L X k)) $$ [Hsx Hsy]
  case region =>
    intro t _
    unfold innerInv
    iintro ⟨Hsx, %f, %hf, Hsy⟩
    iapply (inner_trip d L v3 v4 (chunkIn L X k) f t hf)
    isplitl [Hsx]; · iexact Hsx
    iexact Hsy
  · unfold innerInv
    isplitl [Hsx]; · iexact Hsx
    iexists fy
    isplitr
    · ipureintro; exact done_zero _ _ _ _
    iexact Hsy
  iintro %_ HI
  unfold innerInv
  icases HI with ⟨Hsx, %f, %hf, Hsy⟩
  sl_exec (disch := exact View.amount_pos _ _ (show 0 < S24576.numel by decide))
  ihave Ho := (Entails.of_eq (landed_out (F := F) d L X v3 v4 k g f (outer_trip.sl.dma0_1 f) (by
    have h := hf; rwa [show 48 * Scf.trips k0_t2_loop.lb k0_t2_loop.ub k0_t2_loop.st = 24576 from by decide] at h) rfl)) $$ Ho
  sl_step
  isplitl [Hx]; · iexact Hx
  isplitl [Ho]; · iexact Ho
  isplitl [Hsx]; · iexists _; iexact Hsx
  isplitl [Hsy]; · iexists _; iexact Hsy
  isplitl [Hc2]; · iexact Hc2
  isplitl [Hc3]; · iexact Hc3
  iexists (insert (SemLoc.dma cc0_scoped3.sem, (default : HIx 1)) (insert (SemLoc.dma cc0_scoped2.sem, (default : HIx 1)) W))
  isplitr
  · ipureintro; intro p hp
    rcases Finset.mem_insert.mp hp with hp | hp
    · exact .inr (hp ▸ rfl)
    rcases Finset.mem_insert.mp hp with hp | hp
    · exact .inr (hp ▸ rfl)
    · exact .inl hp
  iexact HO

end Cert.Proof.KernelIdeal

end
-- ==== Proof.Task.lean ====
/-
  One subcore's task run: the two copies of the splits, their loads, and the outer loop over the task's thirty-two chunks, one chunk of
  the output ending at its final words per trip.
-/
module

public import proofs.«01_k».proof.Proof.Outer

@[expose] public section

noncomputable section

namespace Cert.Proof.KernelIdeal

open Cert.KernelIdeal Cert.KernelIdeal.Gen Cert.Proof.Words

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The task's chunks of the output: the first `k` of them at the contents `G`, the rest at the contents `g`. -/
def chunks (g G : Vec F S25165824 .i32) (k : ℕ) : sProp 𝕄 :=
  bigSep Finset.univ fun j : Fin k0_t1_loop.trips =>
    (oChunk L j).view.loc (V d (cV L) (jV L)) ↦[(oChunk L j).view.set]{fullShare} (if j.val < k then G else g)

/-- Chunk `k` among the chunks, before trip `k`. -/
theorem chunks_take (g G : Vec F S25165824 .i32) (k : Fin k0_t1_loop.trips) :
    chunks d L g G k.val = iprop(((oChunk L k).view.loc (V d (cV L) (jV L)) ↦[(oChunk L k).view.set]{fullShare} g)
      ∗ bigSep (Finset.univ.erase k) fun j : Fin k0_t1_loop.trips =>
        (oChunk L j).view.loc (V d (cV L) (jV L)) ↦[(oChunk L j).view.set]{fullShare} (if j.val < k.val then G else g)) := by
  unfold chunks
  rw [SparseCore.bigSep_erase' (Finset.mem_univ k), if_neg (lt_irrefl _)]

/-- Chunk `k` among the chunks, after trip `k`. -/
theorem chunks_give (g G : Vec F S25165824 .i32) (k : Fin k0_t1_loop.trips) :
    chunks d L g G (k.val + 1) = iprop(((oChunk L k).view.loc (V d (cV L) (jV L)) ↦[(oChunk L k).view.set]{fullShare} G)
      ∗ bigSep (Finset.univ.erase k) fun j : Fin k0_t1_loop.trips =>
        (oChunk L j).view.loc (V d (cV L) (jV L)) ↦[(oChunk L j).view.set]{fullShare} (if j.val < k.val then G else g)) := by
  unfold chunks
  rw [SparseCore.bigSep_erase' (Finset.mem_univ k), if_pos (Nat.lt_succ_self _)]
  refine congrArg (fun R => iprop(((oChunk L k).view.loc (V d (cV L) (jV L)) ↦[(oChunk L k).view.set]{fullShare} G) ∗ R)) (bigSep_congr fun j hj => ?_)
  have hne : j.val ≠ k.val := fun e => (Finset.mem_erase.mp hj).1 (Fin.ext e)
  by_cases h : j.val < k.val
  · rw [if_pos h, if_pos (Nat.lt_succ_of_lt h)]
  · rw [if_neg h, if_neg (by omega)]

/-- After the last trip every chunk is final. -/
theorem chunks_all (g G : Vec F S25165824 .i32) :
    chunks d L g G (Scf.trips k0_t1_loop.lb k0_t1_loop.ub k0_t1_loop.st)
      = bigSep Finset.univ fun j : Fin k0_t1_loop.trips => (oLoc d ↦[(oChunk L j).view.set]{fullShare} G : sProp 𝕄) := by
  unfold chunks
  exact bigSep_congr fun j _ => by rw [if_pos j.isLt]

/-- What the outer loop keeps: the input's share, the task's chunks with the first `k` final, the two staging scratches, the two
    copies' semaphores at zero, and the record of waits. -/
def outerInv (X : Vec F S16777216 .f32) (v3 v4 : Vec F S16 .f32) (q : PosShare TreeShare) (g : Vec F S25165824 .i32)
    (O : CellTallies nD τ sig (HIx 1)) (W : Waits sig (HIx 1)) (k : Nat) (_ : PUnit) : sProp 𝕄 :=
  iprop(Transfers.MayWaits (V d (cV L) (jV L)) (default : HIx 1) O
    ∗ ((xV).view.loc (V d (cV L) (jV L)) ↦{q} X) ∗ chunks d L g (OUT X v3 v4) k
    ∗ (∃ f, (sX).view.loc (V d (cV L) (jV L)) ↦{fullShare} f) ∗ (∃ f, (sY).view.loc (V d (cV L) (jV L)) ↦{fullShare} f)
    ∗ semVal (cell2 d (cV L) (jV L)) 0 ∗ semVal (cell3 d (cV L) (jV L)) 0
    ∗ ∃ W', ⌜∀ p ∈ W', p ∈ W ∨ p.2 = none⌝ ∗ owes (V d (cV L) (jV L)) O W')

/-- What a task is handed and hands back: a share of the input and of the two splits' copies, and its chunks of the output at `G`. -/
def task (q : PosShare TreeShare) (X : Vec F S16777216 .f32) (A B : Vec F S16 .f32) (G : Vec F S25165824 .i32) : sProp 𝕄 :=
  iprop((xLoc d ↦{q} X) ∗ (aLoc d ↦{q} A) ∗ (bLoc d ↦{q} B)
    ∗ bigSep Finset.univ fun j : Fin k0_t1_loop.trips => oLoc d ↦[(oChunk L j).view.set]{fullShare} G)

/-- A register loaded from a scratch holding the splits' lanes is the lanes. -/
theorem load_lanes (b : Memref sig .scVector .vmem S16 .f32) (f : b.view.ty.Contents (Elt F)) (v : Vec F S16 .f32) (hv : b.view.read (Elt F) f = v) :
    b.view.readAt (Elt F) (Rect.unit (s := S16) ![0] S16.size inb_S16_S16_0).toLoadRect f = v := by
  subst hv
  funext j
  rw [View.readAt_apply]
  congr 1
  funext a; apply Fin.ext
  rw [LoadRect.idx_apply, Fin.eq_zero a]
  show 0 + 1 * (j 0).val = (j 0).val
  omega

/-- The task on vector subcore `(L 0, L 1)` of device `d`: its chunks of the output end at their final words. -/
theorem tile_body (hF : (K (F := F)).Facts) (q : PosShare TreeShare) (X : Vec F S16777216 .f32) (A B : Vec F S16 .f32) (g : Vec F S25165824 .i32)
    (O : CellTallies nD τ sig (HIx 1)) (W : Waits sig (HIx 1)) (hO : ∀ g, O g none = 0) :
    iprop(levAts (K (F := F)).L (K (F := F)).lev ∗ emp ∗ task d L q X A B g
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__sc_kernel L xV (Memref.isWhole_whole _) aV (Memref.isWhole_whole _) bV (Memref.isWhole_whole _) oV (Memref.isWhole_whole _)
            sX (Memref.isWhole_whole _) sY (Memref.isWhole_whole _) sA (Memref.isWhole_whole _) sB (Memref.isWhole_whole _)
            cc0_scoped0 cc0_scoped1 cc0_scoped2 cc0_scoped3)
          fun _ => iprop(task d L q X A B (OUT X A B)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  simp only [cc0__sc_kernel_eq_skeleton]; unfold cc0__sc_kernel_skel task
  iintro ⟨#Hlv, -, ⟨Hx, Ha, Hb, Ho⟩, ⟨⟨%fx, Hsx⟩, ⟨%fy, Hsy⟩, ⟨%fa, Hsa⟩, ⟨%fb, Hsb⟩, Hbufs⟩, ⟨Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx := (show (xLoc d ↦{q} X : sProp 𝕄) ⊢ ((xV).view.loc (V d (cV L) (jV L)) ↦{q} X) from .rfl) $$ Hx
  ihave Ha := (show (aLoc d ↦{q} A : sProp 𝕄) ⊢ ((aV).view.loc (V d (cV L) (jV L)) ↦{q} A) from .rfl) $$ Ha
  ihave Hb := (show (bLoc d ↦{q} B : sProp 𝕄) ⊢ ((bV).view.loc (V d (cV L) (jV L)) ↦{q} B) from .rfl) $$ Hb
  ihave Hsa := (show ((V d (cV L) (jV L)).loc cc0_scratch2 ↦{fullShare} fa : sProp 𝕄) ⊢ ((sA).view.loc (V d (cV L) (jV L)) ↦{fullShare} fa) from .rfl) $$ Hsa
  ihave Hsb := (show ((V d (cV L) (jV L)).loc cc0_scratch3 ↦{fullShare} fb : sProp 𝕄) ⊢ ((sB).view.loc (V d (cV L) (jV L)) ↦{fullShare} fb) from .rfl) $$ Hsb
  sl_exec (disch := exact View.amount_pos _ _ (show 0 < S16.numel by decide))
  -- the two loads read the splits' lanes
  rw [show View.readAt (Elt F) (sA).view (Rect.unit (s := S16) ![0] S16.size inb_S16_S16_0).toLoadRect
        (View.write (Elt F) (sA).view fa (tile_body.sl.dma0 A) Finset.univ) = A from load_lanes sA _ A (by
      rw [show View.write (Elt F) (sA).view fa (tile_body.sl.dma0 A) Finset.univ = A from
        View.write_whole_univ (Val := Elt F) (cc0_scratch2 : Ref sig .scVector) fa A]; rfl),
    show View.readAt (Elt F) (sB).view (Rect.unit (s := S16) ![0] S16.size inb_S16_S16_0).toLoadRect
        (View.write (Elt F) (sB).view fb (tile_body.sl.dma0_1 B) Finset.univ) = B from load_lanes sB _ B (by
      rw [show View.write (Elt F) (sB).view fb (tile_body.sl.dma0_1 B) Finset.univ = B from
        View.write_whole_univ (Val := Elt F) (cc0_scratch3 : Ref sig .scVector) fb B]; rfl)]
  sl_for (outerInv (F := F) d L X A B q g O W) $$ [Hmw Hx Ho Hsx Hsy Hc2 Hc3 HO]
  case region =>
    intro k _
    unfold outerInv
    rw [chunks_take, chunks_give]
    iintro ⟨#Hmw, Hx, ⟨Hok, Hrest⟩, Hsx, Hsy, Hc2, Hc3, %W', %hW', HO⟩
    iapply (wp_wand_r frame _ Set.univ)
    isplitl [Hx Hok Hsx Hsy Hc2 Hc3 HO]
    · iapply (outer_trip d L A B X q g O W' k)
      isplitr; · iexact Hmw
      isplitl [Hx]; · iexact Hx
      isplitl [Hok]; · iexact Hok
      isplitl [Hsx]; · iexact Hsx
      isplitl [Hsy]; · iexact Hsy
      isplitl [Hc2]; · iexact Hc2
      isplitl [Hc3]; · iexact Hc3
      iexact HO
    iintro %_ ⟨Hx, Hok, Hsx, Hsy, Hc2, Hc3, %W'', %hW'', HO⟩
    isplitr; · iexact Hmw
    isplitl [Hx]; · iexact Hx
    isplitl [Hok Hrest]
    · isplitl [Hok]; · iexact Hok
      iexact Hrest
    isplitl [Hsx]; · iexact Hsx
    isplitl [Hsy]; · iexact Hsy
    isplitl [Hc2]; · iexact Hc2
    isplitl [Hc3]; · iexact Hc3
    iexists W''; isplitr
    · ipureintro; intro p hp
      rcases hW'' p hp with hp | hp
      · exact hW' p hp
      · exact .inr hp
    iexact HO
  · unfold outerInv
    isplitr; · iexact Hmw
    isplitl [Hx]; · iexact Hx
    isplitl [Ho]
    · unfold chunks; simp only [Nat.not_lt_zero, if_false]; iexact Ho
    isplitl [Hsx]; · iexists fx; iexact Hsx
    isplitl [Hsy]; · iexists fy; iexact Hsy
    isplitl [Hc2]; · iexact Hc2
    isplitl [Hc3]; · iexact Hc3
    iexists (insert (SemLoc.dma cc0_scoped1.sem, (default : HIx 1)) (insert (SemLoc.dma cc0_scoped0.sem, (default : HIx 1)) W)); isplitr
    · ipureintro; intro p hp
      rcases Finset.mem_insert.mp hp with hp | hp
      · exact .inr (hp ▸ rfl)
      rcases Finset.mem_insert.mp hp with hp | hp
      · exact .inr (hp ▸ rfl)
      · exact .inl hp
    iexact HO
  iintro %_ HI
  unfold outerInv
  icases HI with ⟨-, Hx, Ho, Hsx, Hsy, Hc2, Hc3, %W', %hW', HO⟩
  ihave Ho := (Entails.of_eq (chunks_all (F := F) d L g (OUT X A B))) $$ Ho
  sl_step
  isplitl [Hx Ha Hb Ho]
  · isplitl [Hx]; · iexact Hx
    isplitl [Ha]; · iexact Ha
    isplitl [Hb]; · iexact Hb
    iexact Ho
  isplitl [Hsx Hsy Hsa Hsb Hbufs]
  · isplitl [Hsx]; · iexact Hsx
    isplitl [Hsy]; · iexact Hsy
    isplitl [Hsa]; · iexists _; iexact Hsa
    isplitl [Hsb]; · iexists _; iexact Hsb
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists W'; isplitr
  · ipureintro; intro p hp
    rcases hW' p hp with hp | hp
    · exact .inl hp
    · exact .inr (.inl hp)
  iexact HO

end Cert.Proof.KernelIdeal

end
-- ==== Proof.Deal.lean ====
/-
  How the four arrays are dealt to the thirty-two tasks: the input and the splits' copies by read shares, the output by its chunks —
  chunk `k` of the task on SparseCore `c`, subcore `s` is the `(64 s + 32 c + k)`-th run of 24576 elements, and the 1024 runs are the
  whole output.
-/
module

public import proofs.«01_k».proof.Proof.Task

@[expose] public section

noncomputable section

namespace Cert.Proof.KernelIdeal

open Cert.KernelIdeal Cert.KernelIdeal.Gen Cert.Proof.Words

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The task on SparseCore `c`, subcore `s`. -/
abbrev taskAt (c : Fin 2) (s : Fin 16) : grid0.Coords := coordsV ⟨c.val, c.isLt⟩ ⟨s.val, s.isLt⟩

/-- The number of chunk `k` of the task on SparseCore `c`, subcore `s`. -/
def chunkNo (p : Fin 2 × Fin 16 × Fin k0_t1_loop.trips) : ℕ := 64 * p.2.1.val + 32 * p.1.val + p.2.2.val

/-- The chunk's elements. -/
abbrev chunkSet (p : Fin 2 × Fin 16 × Fin k0_t1_loop.trips) : Finset S25165824.Idx := (oChunk (taskAt p.1 p.2.1) p.2.2).view.set

/-- An element is in a chunk exactly when it lies in the chunk's run. -/
theorem mem_chunkSet (p : Fin 2 × Fin 16 × Fin k0_t1_loop.trips) (i : S25165824.Idx) :
    i ∈ chunkSet p ↔ 24576 * chunkNo p ≤ (i 0).val ∧ (i 0).val < 24576 * chunkNo p + 24576 := by
  have h0 : chunkSet p = (oRect (taskAt p.1 p.2.1) p.2.2).set := by
    show ((View.whole (main_v7_scv : Ref sig .scVector)).slice (oRect (taskAt p.1 p.2.1) p.2.2)).set = _
    rw [View.set_slice]; exact Finset.map_refl
  have e : 24576 * chunkNo p = (k0_off2 (taskAt p.1 p.2.1) p.2.2) 0 := by
    rw [k0_off2_eq]
    show _ = 1572864 * p.2.1.val + 786432 * p.1.val + 24576 * p.2.2.val
    unfold chunkNo; omega
  rw [h0, e]
  refine Rect.mem_set_unit.trans ⟨fun h => h 0, fun h a => ?_⟩
  rw [Fin.eq_zero a]; exact h

/-- Two different chunks share no element. -/
theorem chunks_disjoint : ∀ p ∈ (Finset.univ : Finset (Fin 2 × Fin 16 × Fin k0_t1_loop.trips)), ∀ p' ∈ (Finset.univ : Finset (Fin 2 × Fin 16 × Fin k0_t1_loop.trips)),
    p ≠ p' → Disjoint (chunkSet p) (chunkSet p') := by
  intro p _ p' _ hne
  refine Finset.disjoint_left.mpr fun i hi hi' => hne ?_
  rw [mem_chunkSet] at hi hi'
  have e : chunkNo p = chunkNo p' := by omega
  obtain ⟨c, s, k⟩ := p
  obtain ⟨c', s', k'⟩ := p'
  have hk : k.val < 32 := lt_of_lt_of_eq k.isLt trips1
  have hk' : k'.val < 32 := lt_of_lt_of_eq k'.isLt trips1
  have hc : c.val < 2 := c.isLt
  have hc' : c'.val < 2 := c'.isLt
  unfold chunkNo at e
  dsimp only at e
  exact Prod.ext (Fin.ext (by dsimp only; omega)) (Prod.ext (Fin.ext (by dsimp only; omega)) (Fin.ext (by dsimp only; omega)))

/-- Every element of the output is in some chunk. -/
theorem chunks_cover : (Finset.univ : Finset (Fin 2 × Fin 16 × Fin k0_t1_loop.trips)).biUnion chunkSet = Finset.univ := by
  refine Finset.eq_univ_iff_forall.mpr ?_
  intro i
  rw [Finset.mem_biUnion]
  have hi : (i 0).val < 25165824 := (i 0).isLt
  refine ⟨(⟨(i 0).val / 24576 / 32 % 2, by omega⟩, ⟨(i 0).val / 24576 / 64, by omega⟩, ⟨(i 0).val / 24576 % 32, by rw [trips1]; omega⟩), Finset.mem_univ _, ?_⟩
  rw [mem_chunkSet]
  unfold chunkNo
  dsimp only
  omega

/-- The output whole is its chunks, task by task. -/
theorem out_chunks (d : Dev nD) (G : Vec F S25165824 .i32) :
    (oLoc d ↦{fullShare} G : sProp 𝕄)
      = bigSep Finset.univ fun c : Fin 2 => bigSep Finset.univ fun s : Fin 16 => bigSep Finset.univ fun k : Fin k0_t1_loop.trips =>
          oLoc d ↦[(oChunk (taskAt c s) k).view.set]{fullShare} G := by
  have h : (oLoc d ↦[Finset.univ.biUnion chunkSet]{fullShare} G : sProp 𝕄)
      = bigSep Finset.univ fun p => oLoc d ↦[chunkSet p]{fullShare} G := pointsTo_biUnion Finset.univ (ℓ := oLoc d) chunkSet chunks_disjoint
  rw [chunks_cover, bigSep_univ_prod] at h
  refine h.trans (bigSep_congr fun c _ => ?_)
  exact bigSep_univ_prod (fun p : Fin 16 × Fin k0_t1_loop.trips => (oLoc d ↦[chunkSet (c, p)]{fullShare} G : sProp 𝕄))

/-- The read share of the task on SparseCore `c`, subcore `s`. -/
def shr (c : Fin 2) (s : Fin 16) : PosShare TreeShare := Transfers.dealOf (Transfers.dealOf fullShare Finset.univ c) Finset.univ s

/-- An array whole is the tasks' read shares of it. -/
theorem read_shares (ℓ : Loc nD τ sig) (f : Buf (Elt F) ℓ) :
    (ℓ ↦{fullShare} f : sProp 𝕄) = bigSep Finset.univ fun c : Fin 2 => bigSep Finset.univ fun s : Fin 16 => ℓ ↦{shr c s} f := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

/-- The tasks of SparseCore `c`, all sixteen. -/
def core (d : Dev nD) (c : Fin 2) (X : Vec F S16777216 .f32) (A B : Vec F S16 .f32) (G : Vec F S25165824 .i32) : sProp 𝕄 :=
  bigSep Finset.univ fun s : Fin 16 => task d (taskAt c s) (shr c s) X A B G

/-- The four arrays whole are what the tasks of the two SparseCores hold. -/
theorem cores_eq (d : Dev nD) (X : Vec F S16777216 .f32) (A B : Vec F S16 .f32) (G : Vec F S25165824 .i32) :
    (bigSep Finset.univ fun c : Fin 2 => core d c X A B G : sProp 𝕄)
      = iprop((xLoc d ↦{fullShare} X) ∗ (aLoc d ↦{fullShare} A) ∗ (bLoc d ↦{fullShare} B) ∗ oLoc d ↦{fullShare} G) := by
  unfold core task
  simp only [bigSep_sep']
  rw [← read_shares, ← read_shares, ← read_shares, ← out_chunks]

end Cert.Proof.KernelIdeal

end
-- ==== Proof.Launch.lean ====
/-
  The whole run: @main lays the input flat and copies each split into sixteen lanes, hands the four arrays to the two SparseCores' tasks,
  takes them back with the output at its final words, and gives the output its rows. The run ends with the arguments unchanged, every
  semaphore back at zero, and the result at those words.
-/
module

public import proofs.«01_k».proof.Proof.Deal

@[expose] public section

noncomputable section

namespace Cert.Proof.KernelIdeal

open Cert.KernelIdeal Cert.KernelIdeal.Gen Cert.Proof.Words

open Idealize.ShloMosaic
open Idealize.ShloMosaic.StableHlo (held held_split held_sub_split held_sdiff_result wp_hlo_within)
open Idealize.ShloMosaic.SparseCore (S V T)
open Idealize.ShloMosaic.SparseCore.Cfg (HIx Pay tileRest)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations -/

/-- An array of the TensorCore, as an array of the device. -/
abbrev dref (b : Ref sig .tc) : DevRef τ sig := Proc.devRef .tc b

/-- The operations of @main around the call, as the program states them: the flat input, the two splits' lanes, the result's rows. -/
abbrev op0 : HloOp τ sig (Elt F) := StableHlo.reshape main_arg0 main_v0 (rfl : (.f32 : EltTy) = .f32) shapeCasts_S8388608x2_S16777216
abbrev op1 : HloOp τ sig (Elt F) := StableHlo.unary main_arg1 main_v1 ((extractStridedSlice S1 ![0] · slices_S2_S1_0) : (⟨S2, .f32⟩ : BufTy).Contents (Elt F) → (⟨S1, .f32⟩ : BufTy).Contents (Elt F))
abbrev op2 : HloOp τ sig (Elt F) := StableHlo.reshape main_v1 main_v2 (rfl : (.f32 : EltTy) = .f32) shapeCasts_S1_S_
abbrev op3 : HloOp τ sig (Elt F) := StableHlo.unary main_v2 main_v3 (broadcastInDim S16 ![] bcast_S_S16 : (⟨S_, .f32⟩ : BufTy).Contents (Elt F) → (⟨S16, .f32⟩ : BufTy).Contents (Elt F))
abbrev op4 : HloOp τ sig (Elt F) := StableHlo.unary main_arg1 main_v4 ((extractStridedSlice S1 ![1] · slices_S2_S1_1) : (⟨S2, .f32⟩ : BufTy).Contents (Elt F) → (⟨S1, .f32⟩ : BufTy).Contents (Elt F))
abbrev op5 : HloOp τ sig (Elt F) := StableHlo.reshape main_v4 main_v5 (rfl : (.f32 : EltTy) = .f32) shapeCasts_S1_S_
abbrev op6 : HloOp τ sig (Elt F) := StableHlo.unary main_v5 main_v6 (broadcastInDim S16 ![] bcast_S_S16 : (⟨S_, .f32⟩ : BufTy).Contents (Elt F) → (⟨S16, .f32⟩ : BufTy).Contents (Elt F))
abbrev op8 : HloOp τ sig (Elt F) := StableHlo.reshape main_v7 main_v8 (rfl : (.i32 : EltTy) = .i32) shapeCasts_S25165824_S8388608x3

/-- The arrays' contents at launch, and before the call. -/
def V0 (d : Dev nD) : Valuation τ sig (Elt F) := fun b => m (d, b)
abbrev V1 (d : Dev nD) : Valuation τ sig (Elt F) := (op0 (F := F)).result (V0 m d)
abbrev V2 (d : Dev nD) : Valuation τ sig (Elt F) := (op1 (F := F)).result (V1 m d)
abbrev V3 (d : Dev nD) : Valuation τ sig (Elt F) := (op2 (F := F)).result (V2 m d)
abbrev V4 (d : Dev nD) : Valuation τ sig (Elt F) := (op3 (F := F)).result (V3 m d)
abbrev V5 (d : Dev nD) : Valuation τ sig (Elt F) := (op4 (F := F)).result (V4 m d)
abbrev V6 (d : Dev nD) : Valuation τ sig (Elt F) := (op5 (F := F)).result (V5 m d)
abbrev V7 (d : Dev nD) : Valuation τ sig (Elt F) := (op6 (F := F)).result (V6 m d)

/-- The flat input and the splits' lanes as the tasks read them, the output as it was and as the tasks leave it. -/
def Xc (d : Dev nD) : Vec F S16777216 .f32 := V7 m d (dref main_v0)
def Ac (d : Dev nD) : Vec F S16 .f32 := V7 m d (dref main_v3)
def Bc (d : Dev nD) : Vec F S16 .f32 := V7 m d (dref main_v6)
def Gc (d : Dev nD) : Vec F S25165824 .i32 := V7 m d (dref main_v7)
def OUTc (d : Dev nD) : Vec F S25165824 .i32 := OUT (Xc m d) (Ac m d) (Bc m d)

/-- After the call, and at the end. -/
def V8 (d : Dev nD) : Valuation τ sig (Elt F) := Function.update (V7 m d) (dref main_v7) (OUTc m d)
def V9 (d : Dev nD) : Valuation τ sig (Elt F) := (op8 (F := F)).result (V8 m d)

/-- The result. -/
def RES (d : Dev nD) : Vec F S8388608x3 .i32 := shapeCast S8388608x3 (OUTc m d) shapeCasts_S25165824_S8388608x3

/-- The call's four arrays, and the TensorCore's arrays. -/
abbrev SQ : Finset (DevRef τ sig) := {dref main_v0, dref main_v3, dref main_v6, dref main_v7}
abbrev SF : Finset (DevRef τ sig) := {dref main_arg0, dref main_arg1, dref main_v8}
abbrev SU : Finset (DevRef τ sig) := {dref main_arg0, dref main_arg1, dref main_v0, dref main_v1, dref main_v2, dref main_v3, dref main_v4, dref main_v5,
  dref main_v6, dref main_v7, dref main_v8}

/-- The TensorCore's arrays at launch are those eleven. -/
theorem unscoped_held (d : Dev nD) : (unscopedBufs d (fun b => m ((SparseCore.T d).loc b)) : sProp 𝕄) = held (T d) SU (V0 m d) := by
  unfold unscopedBufs held SU
  rw [show (Finset.univ.filter fun b : Ref sig .tc => ¬ b.isScoped) = {main_arg0, main_arg1, main_v0, main_v1, main_v2, main_v3, main_v4, main_v5,
    main_v6, main_v7, main_v8} by decide]
  iterate 10 rw [SparseCore.bigSep_insert' (by decide)]
  iterate 10 rw [SparseCore.bigSep_insert' (by decide)]
  rw [bigSep_singleton, bigSep_singleton]
  rfl

/-- The call's four arrays, one by one. -/
theorem held_SQ (d : Dev nD) (W : Valuation τ sig (Elt F)) :
    (held (T d) SQ W : sProp 𝕄)
      = iprop((xLoc d ↦{fullShare} W (dref main_v0)) ∗ (aLoc d ↦{fullShare} W (dref main_v3)) ∗ (bLoc d ↦{fullShare} W (dref main_v6)) ∗ oLoc d ↦{fullShare} W (dref main_v7)) := by
  unfold held SQ
  rw [SparseCore.bigSep_insert' (by decide), SparseCore.bigSep_insert' (by decide), SparseCore.bigSep_insert' (by decide), bigSep_singleton]

/-- The arguments and the result, one by one. -/
theorem held_SF (d : Dev nD) (W : Valuation τ sig (Elt F)) :
    (held (T d) SF W : sProp 𝕄)
      = iprop(((SparseCore.T d).loc main_arg0 ↦{fullShare} W (dref main_arg0)) ∗ ((SparseCore.T d).loc main_arg1 ↦{fullShare} W (dref main_arg1))
          ∗ (SparseCore.T d).loc main_v8 ↦{fullShare} W (dref main_v8)) := by
  unfold held SF
  rw [SparseCore.bigSep_insert' (by decide), SparseCore.bigSep_insert' (by decide), bigSep_singleton]

/-- The call changes only the output, so the rest of the arrays are as before it. -/
theorem held_rest (d : Dev nD) : (held (T d) (SU \ SQ) (V7 m d) : sProp 𝕄) = held (T d) (SU \ SQ) (V8 m d) := by
  unfold held
  refine bigSep_congr fun b hb => ?_
  have hne : b ≠ dref main_v7 := fun e => (Finset.mem_sdiff.mp hb).2 (e ▸ by decide)
  unfold V8
  rw [Function.update_of_ne hne]

/-- The seven operations before the call leave alone every array they do not write. -/
theorem V7_of_ne (d : Dev nD) (r : Ref sig .tc) (e0 : r ≠ main_v0) (e1 : r ≠ main_v1) (e2 : r ≠ main_v2) (e3 : r ≠ main_v3) (e4 : r ≠ main_v4)
    (e5 : r ≠ main_v5) (e6 : r ≠ main_v6) : V7 m d (dref r) = m ((SparseCore.T d).loc r) := by
  unfold V7 V6 V5 V4 V3 V2 V1
  rw [StableHlo.unary_result_ne (h := e6), StableHlo.reshape_result_ne (h := e5), StableHlo.unary_result_ne (h := e4), StableHlo.unary_result_ne (h := e3),
    StableHlo.reshape_result_ne (h := e2), StableHlo.unary_result_ne (h := e1), StableHlo.reshape_result_ne (h := e0)]
  rfl

/-- Nor do the call and the last reshape, which write the output and the result. -/
theorem V9_of_ne (d : Dev nD) (r : Ref sig .tc) (e7 : dref r ≠ dref main_v7) (e8 : r ≠ main_v8) : V9 m d (dref r) = V7 m d (dref r) := by
  unfold V9
  rw [StableHlo.reshape_result_ne (h := e8)]
  unfold V8
  rw [Function.update_of_ne e7]

/-- At the end: the arguments as launched, the result the flat output in rows. -/
theorem held_V9 (d : Dev nD) :
    (held (T d) SF (V9 m d) : sProp 𝕄)
      = iprop(((SparseCore.T d).loc main_arg0 ↦{fullShare} m ((SparseCore.T d).loc main_arg0)) ∗ ((SparseCore.T d).loc main_arg1 ↦{fullShare} m ((SparseCore.T d).loc main_arg1))
          ∗ (SparseCore.T d).loc main_v8 ↦{fullShare} RES m d) := by
  have h0 : V9 m d (dref main_arg0) = m ((SparseCore.T d).loc main_arg0) :=
    (V9_of_ne m d _ (by decide) (by decide)).trans (V7_of_ne m d _ (by decide) (by decide) (by decide) (by decide) (by decide) (by decide) (by decide))
  have h1 : V9 m d (dref main_arg1) = m ((SparseCore.T d).loc main_arg1) :=
    (V9_of_ne m d _ (by decide) (by decide)).trans (V7_of_ne m d _ (by decide) (by decide) (by decide) (by decide) (by decide) (by decide) (by decide))
  have h8 : V9 m d (dref main_v8) = RES m d := by
    unfold V9
    rw [StableHlo.reshape_result]
    unfold V8
    rw [Function.update_self]
    rfl
  rw [held_SF, h0, h1, h8]

/-! ## What the handshakes carry -/

/-- The call takes each SparseCore its sixteen tasks' shares and chunks, and brings them back with the chunks at their final words. -/
def P : (K (F := F)).Pay (nD := nD) (Val := Elt F) (Name := ℕ) (U := UU) where
  st := fun q d c => match q with | 0 => core d (Fin.cast nCore_zero c) (Xc m d) (Ac m d) (Bc m d) (Gc m d)
  dn := fun q d c => match q with | 0 => core d (Fin.cast nCore_zero c) (Xc m d) (Ac m d) (Bc m d) (OUTc m d)
  go := fun q d c i => match q with
    | 0 => task d (taskAt (Fin.cast nCore_zero c) (Fin.cast nSub_zero i)) (shr (Fin.cast nCore_zero c) (Fin.cast nSub_zero i)) (Xc m d) (Ac m d) (Bc m d) (Gc m d)
  td := fun q d c i => match q with
    | 0 => task d (taskAt (Fin.cast nCore_zero c) (Fin.cast nSub_zero i)) (shr (Fin.cast nCore_zero c) (Fin.cast nSub_zero i)) (Xc m d) (Ac m d) (Bc m d) (OUTc m d)
  x := fun _ _ => iprop(emp)

/-- A task's resources may be stored in a handshake's invariant. -/
instance task_storable (d : Dev nD) (L : grid0.Coords) (q : PosShare TreeShare) (X : Vec F S16777216 .f32) (A B : Vec F S16 .f32) (G : Vec F S25165824 .i32) :
    BI.Storable (upEmb : UEmb _ 𝕄) (task d L q X A B G) := by
  unfold task; infer_instance

/-- So may a SparseCore's. -/
instance core_storable (d : Dev nD) (c : Fin 2) (X : Vec F S16777216 .f32) (A B : Vec F S16 .f32) (G : Vec F S25165824 .i32) :
    BI.Storable (upEmb : UEmb _ 𝕄) (core d c X A B G) := by
  unfold core; infer_instance

/-- So may everything the handshakes carry. -/
instance P_storable : (P (F := F) m).IsStorable where
  st q d c := match q with
    | 0 => (inferInstance : BI.Storable (upEmb : UEmb _ 𝕄) (core d (Fin.cast nCore_zero c) (Xc m d) (Ac m d) (Bc m d) (Gc m d)))
  dn q d c := match q with
    | 0 => (inferInstance : BI.Storable (upEmb : UEmb _ 𝕄) (core d (Fin.cast nCore_zero c) (Xc m d) (Ac m d) (Bc m d) (OUTc m d)))
  go q d c i := match q with
    | 0 => task_storable d (taskAt (Fin.cast nCore_zero c) (Fin.cast nSub_zero i)) (shr (Fin.cast nCore_zero c) (Fin.cast nSub_zero i)) (Xc m d) (Ac m d) (Bc m d) (Gc m d)
  td q d c i := match q with
    | 0 => task_storable d (taskAt (Fin.cast nCore_zero c) (Fin.cast nSub_zero i)) (shr (Fin.cast nCore_zero c) (Fin.cast nSub_zero i)) (Xc m d) (Ac m d) (Bc m d) (OUTc m d)

/-- A sum over the call's subcores is a sum over sixteen. -/
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A sum over the call's SparseCores is a sum over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What a SparseCore is handed is its sixteen tasks', both ways. -/
theorem vecSplit : (K (F := F)).VecSplit' (P m) 0 := by
  intro d c
  show core d (Fin.cast nCore_zero c) (Xc m d) (Ac m d) (Bc m d) (Gc m d) ⊢ |={Set.univ}=> iprop(
      (bigSep Finset.univ fun i : Fin ((K (F := F)).nSub 0) =>
        task d (taskAt (Fin.cast nCore_zero c) (Fin.cast nSub_zero i)) (shr (Fin.cast nCore_zero c) (Fin.cast nSub_zero i)) (Xc m d) (Ac m d) (Bc m d) (Gc m d))
      ∗ ((bigSep Finset.univ fun i : Fin ((K (F := F)).nSub 0) =>
        task d (taskAt (Fin.cast nCore_zero c) (Fin.cast nSub_zero i)) (shr (Fin.cast nCore_zero c) (Fin.cast nSub_zero i)) (Xc m d) (Ac m d) (Bc m d) (OUTc m d))
          -∗ core d (Fin.cast nCore_zero c) (Xc m d) (Ac m d) (Bc m d) (OUTc m d)))
  rw [bigSep_subs (F := F) (fun i => task d (taskAt (Fin.cast nCore_zero c) i) (shr (Fin.cast nCore_zero c) i) (Xc m d) (Ac m d) (Bc m d) (Gc m d)),
    bigSep_subs (F := F) (fun i => task d (taskAt (Fin.cast nCore_zero c) i) (shr (Fin.cast nCore_zero c) i) (Xc m d) (Ac m d) (Bc m d) (OUTc m d))]
  unfold core
  iintro H; imodintro
  isplitl [H]; · iexact H
  iintro H; iexact H

/-! ## The tasks' obligation -/

/-- What the body table runs on a vector subcore is the kernel at that subcore's coordinates. -/
theorem defs₀_vector (c : Fin τ.nSC) (s : Fin τ.nSub) :
    defs₀ (F := F) (.scVector c s) 0 ()
      = SparseCore.onTile hcore0 hsub0 (fun c s => cc0__sc_kernel (coordsV c s)
          xV (Memref.isWhole_whole _) aV (Memref.isWhole_whole _) bV (Memref.isWhole_whole _) oV (Memref.isWhole_whole _)
          sX (Memref.isWhole_whole _) sY (Memref.isWhole_whole _) sA (Memref.isWhole_whole _) sB (Memref.isWhole_whole _)
          cc0_scoped0 cc0_scoped1 cc0_scoped2 cc0_scoped3) ⟨⟩ c s := rfl

/-- Every task does what the call asks of it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF _ (Xc m d) (Ac m d) (Bc m d) (Gc m d) O W hO

/-! ## The launch element: the handshakes' rounds; nothing of the kernel's own -/

/-- The ghost state at launch. -/
def u₀ : UU := (initOf (K (F := F)).hsCells (K (F := F)).hsToks, 1)

/-- Nothing, any number of times, is nothing. -/
theorem bigSep_nothing {I : Type} (s : Finset I) : (bigSep s fun _ => iprop(emp)) = (iprop(emp) : sProp 𝕄) := bigSep_emp_const s

/-- The launch element is the handshakes' rounds; the kernel's own part is empty. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

/-- Handed out and taken back: the four arrays whole. -/
theorem st0_eq (d : Dev nD) :
    (bigSep Finset.univ fun c : Fin ((K (F := F)).nCore 0) => (P m).st 0 d c)
      = iprop((xLoc d ↦{fullShare} Xc m d) ∗ (aLoc d ↦{fullShare} Ac m d) ∗ (bLoc d ↦{fullShare} Bc m d) ∗ oLoc d ↦{fullShare} Gc m d) :=
  (bigSep_cores (F := F) fun c => core d c (Xc m d) (Ac m d) (Bc m d) (Gc m d)).trans (cores_eq d _ _ _ _)

/-- The same, with the output at its final words. -/
theorem dn0_eq (d : Dev nD) :
    (bigSep Finset.univ fun c : Fin ((K (F := F)).nCore 0) => (P m).dn 0 d c)
      = iprop((xLoc d ↦{fullShare} Xc m d) ∗ (aLoc d ↦{fullShare} Ac m d) ∗ (bLoc d ↦{fullShare} Bc m d) ∗ oLoc d ↦{fullShare} OUTc m d) :=
  (bigSep_cores (F := F) fun c => core d c (Xc m d) (Ac m d) (Bc m d) (OUTc m d)).trans (cores_eq d _ _ _ _)

/-- Laying the input flat works on the TensorCore's arrays. -/
theorem h0 : (op0 (F := F)).bufs ⊆ SU := show ({dref main_arg0, dref main_v0} : Finset (DevRef τ sig)) ⊆ SU by decide
/-- So does cutting out the first split, -/
theorem h1 : (op1 (F := F)).bufs ⊆ SU := show ({dref main_arg1, dref main_v1} : Finset (DevRef τ sig)) ⊆ SU by decide
/-- making it a scalar, -/
theorem h2 : (op2 (F := F)).bufs ⊆ SU := show ({dref main_v1, dref main_v2} : Finset (DevRef τ sig)) ⊆ SU by decide
/-- copying it into the lanes, -/
theorem h3 : (op3 (F := F)).bufs ⊆ SU := show ({dref main_v2, dref main_v3} : Finset (DevRef τ sig)) ⊆ SU by decide
/-- cutting out the second split, -/
theorem h4 : (op4 (F := F)).bufs ⊆ SU := show ({dref main_arg1, dref main_v4} : Finset (DevRef τ sig)) ⊆ SU by decide
/-- making it a scalar, -/
theorem h5 : (op5 (F := F)).bufs ⊆ SU := show ({dref main_v4, dref main_v5} : Finset (DevRef τ sig)) ⊆ SU by decide
/-- copying it into the lanes, -/
theorem h6 : (op6 (F := F)).bufs ⊆ SU := show ({dref main_v5, dref main_v6} : Finset (DevRef τ sig)) ⊆ SU by decide
/-- and giving the result its rows. -/
theorem h8 : (op8 (F := F)).bufs ⊆ SU := show ({dref main_v7, dref main_v8} : Finset (DevRef τ sig)) ⊆ SU by decide

/-- What @main leaves: the arguments at their launch contents, the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (SparseCore.T d).loc main_v8 ↦{fullShare} RES m d)

/-- @main on device `d`'s TensorCore: seven operations, the call, the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := SU) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := SU) h1 (V := V1 m d)) $$ [Hb Hheld]
  · isplitl [Hb] <;> iassumption
  iintro ⟨Hb, Hheld⟩
  rw [wp_ret]; imodintro
  iapply (wp_hlo_within 𝒱 (SparseCore.T d) none Set.univ (op := op2) (S := SU) h2 (V := V2 m d)) $$ [Hb Hheld]
  · isplitl [Hb] <;> iassumption
  iintro ⟨Hb, Hheld⟩
  rw [wp_ret]; imodintro
  iapply (wp_hlo_within 𝒱 (SparseCore.T d) none Set.univ (op := op3) (S := SU) h3 (V := V3 m d)) $$ [Hb Hheld]
  · isplitl [Hb] <;> iassumption
  iintro ⟨Hb, Hheld⟩
  rw [wp_ret]; imodintro
  iapply (wp_hlo_within 𝒱 (SparseCore.T d) none Set.univ (op := op4) (S := SU) h4 (V := V4 m d)) $$ [Hb Hheld]
  · isplitl [Hb] <;> iassumption
  iintro ⟨Hb, Hheld⟩
  rw [wp_ret]; imodintro
  iapply (wp_hlo_within 𝒱 (SparseCore.T d) none Set.univ (op := op5) (S := SU) h5 (V := V5 m d)) $$ [Hb Hheld]
  · isplitl [Hb] <;> iassumption
  iintro ⟨Hb, Hheld⟩
  rw [wp_ret]; imodintro
  iapply (wp_hlo_within 𝒱 (SparseCore.T d) none Set.univ (op := op6) (S := SU) h6 (V := V6 m d)) $$ [Hb Hheld]
  · isplitl [Hb] <;> iassumption
  iintro ⟨Hb, Hheld⟩
  rw [wp_ret]; imodintro
  -- the call, from the four arrays and back
  ihave Hh := (show held (T d) SU ((op6 (F := F)).result (V6 m d)) ⊢ (iprop(held (T d) SQ (V7 m d) ∗ held (T d) (SU \ SQ) (V8 m d)) : sProp 𝕄) from
    Entails.of_eq ((held_sub_split (T d) (show SQ ⊆ SU by decide) (V7 m d)).trans (by rw [held_rest]))) $$ Hheld
  icases Hh with ⟨Hq, Hrest⟩
  ihave Hq := (Entails.of_eq (held_SQ (F := F) d (V7 m d))) $$ Hq
  iapply ((K (F := F)).wp_run (D (F := F)) 𝒱 (EH := EH) (P := P m) κ d 0) $$ [Hst Hq Hb Hrest Hts]
  isplitr; · iexact Hctx
  isplitl [Hst]; · iexact Hst
  isplitl [Hq]; · rw [st0_eq]; iexact Hq
  iintro ⟨Hst, Hdn⟩
  ihave Hdn := (Entails.of_eq (dn0_eq m d)) $$ Hdn
  ihave Hheld := (show iprop(((xLoc d ↦{fullShare} Xc m d) ∗ (aLoc d ↦{fullShare} Ac m d) ∗ (bLoc d ↦{fullShare} Bc m d) ∗ oLoc d ↦{fullShare} OUTc m d)
      ∗ held (T d) (SU \ SQ) (V8 m d)) ⊢ (held (T d) SU (V8 m d) : sProp 𝕄) from Entails.of_eq (by
        rw [held_sub_split (T d) (show SQ ⊆ SU by decide) (V8 m d), held_SQ]
        unfold V8
        rw [Function.update_self, Function.update_of_ne (by decide), Function.update_of_ne (by decide), Function.update_of_ne (by decide)]
        rfl)) $$ [Hdn Hrest]
  · isplitl [Hdn] <;> iassumption
  iapply (wp_hlo_within 𝒱 (SparseCore.T d) none Set.univ (op := op8) (S := SU) h8 (V := V8 m d)) $$ [Hb Hheld]
  · isplitl [Hb] <;> iassumption
  iintro ⟨Hb, Hheld⟩
  ihave Hh := (show held (T d) SU ((op8 (F := F)).result (V8 m d)) ⊢ (iprop(held (T d) SF (V9 m d) ∗ held (T d) (SU \ SF) (V9 m d)) : sProp 𝕄) from
    Entails.of_eq (held_sub_split (T d) (show SF ⊆ SU by decide) (V9 m d))) $$ Hheld
  icases Hh with ⟨Hf, -⟩
  ihave Hf := (Entails.of_eq (held_V9 m d)) $$ Hf
  rw [wp_ret]; imodintro; imodintro
  isplitl [Hst]; · iexact Hst
  isplitl [Hf]; · iexact Hf
  isplitl [Hb] <;> iassumption

/-! ## The end of the run -/

/-- What the claims read of device `d`'s final state. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v8) = RES m d

/-- An array held whole at the end is the memory's. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  iexact HSI

/-- The arrays @main leaves are what the final memory holds. -/
theorem hfin (d : Dev nD) (s' : Phys nD τ sig (Elt F)) : iprop(FIN m d ∗ SI s') ⊢ (⌜fq m d s'⌝ : sProp 𝕄) := by
  iintro ⟨⟨Hx, Ha, Hr⟩, HSI⟩
  ihave H := (read_whole (F := F) ((SparseCore.T d).loc main_arg0) _ s') $$ [Hx HSI]
  · isplitl [Hx] <;> iassumption
  icases H with ⟨%hx, HSI⟩
  ihave H := (read_whole (F := F) ((SparseCore.T d).loc main_arg1) _ s') $$ [Ha HSI]
  · isplitl [Ha] <;> iassumption
  icases H with ⟨%ha, HSI⟩
  ihave H := (read_whole (F := F) ((SparseCore.T d).loc main_v8) _ s') $$ [Hr HSI]
  · isplitl [Hr] <;> iassumption
  icases H with ⟨%hr, -⟩
  ipureintro; exact ⟨hx, ha, hr⟩

/-- The run's end: on every device the arguments unchanged and the result at its words; every semaphore at zero. -/
def QC : PUnit × MemSt nD τ sig (Elt F) → Prop := fun r =>
  (∀ c : Dev nD, r.2.mem ((SparseCore.T c).loc main_arg0) = m ((SparseCore.T c).loc main_arg0)
    ∧ r.2.mem ((SparseCore.T c).loc main_arg1) = m ((SparseCore.T c).loc main_arg1) ∧ r.2.mem ((SparseCore.T c).loc main_v8) = RES m c) ∧ r.2.sem = fun _ => 0

/-- Every run of the program ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Bins.lean ====
/-
  What the program and the reference compute, element by element, and why it is the same. Both results at row `r`, column `c` are read
  down to the four numbers they depend on: the row's pair and the two splits. What remains is about those four alone, over the extended
  reals: the kernel's three words are the one-hot code of the number of splits below the distance, if the splits are in order.
-/
module

public import proofs.«01_k».proof.Proof.Launch
public import proofs.«01_k».proof.Proof.Gen.ReferenceIdeal.Run
public import Idealize.ShloMosaic.Lib.Routing.Ops

@[expose] public section

noncomputable section

namespace Cert.Proof.KernelIdeal

open Cert.KernelIdeal Cert.KernelIdeal.Gen Cert.Proof.Words

open Idealize.ShloMosaic
open Idealize.ShloMosaic.ValueIdx Idealize.ShloMosaic.Routing
open Idealize.SL Idealize.SL.Sem

/-! ## The kernel's result at one place -/

section Kernel

variable {F : FTy → Type} [FloatOps F]
variable (m : (ℓ : Loc nD τ sig) → Buf (Elt F) ℓ) (d : Dev nD)

/-- The two arguments. -/
def arg0 : Vec F S8388608x2 .f32 := m ((SparseCore.T d).loc main_arg0)
def arg1 : Vec F S2 .f32 := m ((SparseCore.T d).loc main_arg1)

/-- The tasks read the first argument laid flat. -/
theorem Xc_eq : Xc m d = shapeCast S16777216 (arg0 m d) shapeCasts_S8388608x2_S16777216 := by
  unfold Xc V7 V6 V5 V4 V3 V2 V1
  rw [StableHlo.unary_result_ne (h := by decide), StableHlo.reshape_result_ne (h := by decide), StableHlo.unary_result_ne (h := by decide),
    StableHlo.unary_result_ne (h := by decide), StableHlo.reshape_result_ne (h := by decide), StableHlo.unary_result_ne (h := by decide),
    StableHlo.reshape_result]
  rfl

/-- The first split's lanes. -/
theorem Ac_eq : Ac m d = broadcastInDim S16 ![] bcast_S_S16 (shapeCast S_ (extractStridedSlice S1 ![0] (arg1 m d) slices_S2_S1_0) shapeCasts_S1_S_) := by
  unfold Ac V7 V6 V5 V4 V3 V2 V1
  rw [StableHlo.unary_result_ne (h := by decide), StableHlo.reshape_result_ne (h := by decide), StableHlo.unary_result_ne (h := by decide),
    StableHlo.unary_result, StableHlo.reshape_result, StableHlo.unary_result, StableHlo.reshape_result_ne (h := by decide)]
  rfl

/-- The second split's lanes. -/
theorem Bc_eq : Bc m d = broadcastInDim S16 ![] bcast_S_S16 (shapeCast S_ (extractStridedSlice S1 ![1] (arg1 m d) slices_S2_S1_1) shapeCasts_S1_S_) := by
  unfold Bc V7 V6 V5 V4 V3 V2 V1
  rw [StableHlo.unary_result, StableHlo.reshape_result, StableHlo.unary_result, StableHlo.unary_result_ne (h := by decide),
    StableHlo.reshape_result_ne (h := by decide), StableHlo.unary_result_ne (h := by decide), StableHlo.reshape_result_ne (h := by decide)]
  rfl

/-- One element of a two-element array, as a scalar. -/
theorem pick_apply {α : Type} (o : ℕ) (ho : o < 2) (v : S2.Idx → α) (h : S2.Slices ![o] S1) (j : S_.Idx) :
    shapeCast S_ (extractStridedSlice S1 ![o] v h) shapeCasts_S1_S_ j = v (ix1 ⟨o, ho⟩) := by
  refine (shapeCast_apply _ shapeCasts_S1_S_ j (ix1 (0 : Fin 1)) ?_).trans (slice1 o v h 0 (by simpa using ho))
  have hk : (S1.rowMajor (ix1 (0 : Fin 1))).val < 1 := (S1.rowMajor _).isLt
  have hj : (S_.rowMajor j).val < 1 := (S_.rowMajor j).isLt
  omega

/-- Every lane of the splits' vectors is the split. -/
theorem lane_eq (o : ℕ) (ho : o < 2) (v : Vec F S2 .f32) (h : S2.Slices ![o] S1) (n : ℕ) :
    rdS (broadcastInDim S16 ![] bcast_S_S16 (shapeCast S_ (extractStridedSlice S1 ![o] v h) shapeCasts_S1_S_)) n = v (ix1 ⟨o, ho⟩) := by
  unfold rdS rd
  rw [bc0]
  exact pick_apply o ho v h _

/-- Element `2 r + e` of the flat input is column `e` of row `r`. -/
theorem flat_eq (v : Vec F S8388608x2 .f32) (r : Fin 8388608) (e : Fin 2) :
    rdI (shapeCast S16777216 v shapeCasts_S8388608x2_S16777216) (2 * r.val + e.val) = v (ix2 r e) := by
  unfold rdI rd
  refine shapeCast_apply v _ _ (ix2 r e) ?_
  rw [Shape.rowMajor_val_two, Shape.rowMajor_val_one]
  show r.val * 2 + e.val = (2 * r.val + e.val) % 16777216
  have := r.isLt; have := e.isLt; omega

/-- The kernel's result at row `r`, column `c`: that word of the row against the splits. -/
theorem RES_apply (r : Fin 8388608) (c : Fin 3) :
    RES m d (ix2 r c) = word (arg1 m d (ix1 (0 : Fin 2))) (arg1 m d (ix1 (1 : Fin 2))) (arg0 m d (ix2 r (0 : Fin 2))) (arg0 m d (ix2 r (1 : Fin 2))) c.val := by
  have hp : 3 * r.val + c.val < 25165824 := by have := r.isLt; have := c.isLt; omega
  unfold RES
  rw [cast12 (OUTc m d) shapeCasts_S25165824_S8388608x3 r c ⟨3 * r.val + c.val, hp⟩ (by show 3 * r.val + c.val = r.val * 3 + c.val; omega)]
  show binWord (rdI (Xc m d)) (rdS (Ac m d)) (rdS (Bc m d)) (3 * r.val + c.val) = _
  rw [binWord_at _ _ _ _ _ c.isLt, Xc_eq, Ac_eq, Bc_eq, lane_eq 0 (by decide), lane_eq 1 (by decide)]
  have e0 := flat_eq (arg0 m d) r 0
  have e1 := flat_eq (arg0 m d) r 1
  exact congrArg₂ (fun a b => word _ _ a b c.val) e0 e1

end Kernel

/-! ## The reference's result at one place -/

/-- How many of the two splits lie below `x`, as a 32-bit word. -/
def below (s0 s1 x : Ideal .f32) : BitVec 32 := BitVec.ofNat 32 ((if s0 < x then 1 else 0) + (if s1 < x then 1 else 0))

/-- The one-hot code's word `c` for the number of splits below `x`. -/
def hot (s0 s1 x : Ideal .f32) (c : ℕ) : BitVec 32 := (IntOp.cmpi .eq (below s0 s1 x) (BitVec.ofNat 32 c)).setWidth 32

section Reference

open Cert.ReferenceIdeal (S8388608x1 S8388608 S1x2 S1x3)
open Cert.ReferenceIdeal.Gen

/-- The reference's rows of differences. -/
def dist (x : FVec Ideal S8388608x2 .f32) : FVec Ideal S8388608 .f32 :=
  subf (shapeCast S8388608 (extractStridedSlice S8388608x1 ![0, 1] x slices_S8388608x2_S8388608x1_0_1) shapeCasts_S8388608x1_S8388608)
    (shapeCast S8388608 (extractStridedSlice S8388608x1 ![0, 0] x slices_S8388608x2_S8388608x1_0_0) shapeCasts_S8388608x1_S8388608)

/-- The reference's result, from the two arguments. -/
def REF (x : FVec Ideal S8388608x2 .f32) (s : FVec Ideal S2 .f32) : IVec S8388608x3 32 :=
  extui 32 (cmpi .eq
    (broadcastInDim S8388608x3 ![0, 1] bcast_S8388608x1_S8388608x3_0_1 (broadcastInDim S8388608x1 ![0] bcast_S8388608_S8388608x1_0
      (Host.reduce IntOp.addi (extui 32 (cmpf .olt (broadcastInDim S8388608x2 ![0, 1] bcast_S1x2_S8388608x2_0_1 (broadcastInDim S1x2 ![1] bcast_S2_S1x2_1 s))
        (broadcastInDim S8388608x2 ![0, 1] bcast_S8388608x1_S8388608x2_0_1 (broadcastInDim S8388608x1 ![0] bcast_S8388608_S8388608x1_0 (dist x)))) natLt_1_32)
        (constantI S_ 32 0#32) reducesTo_S8388608x2_S8388608_d1 h_S_)))
    (broadcastInDim S8388608x3 ![0, 1] bcast_S1x3_S8388608x3_0_1 (iotaInDim S1x3 32 1))) natLt_1_32

/-- Column `e` of the input, cut out and laid flat, at row `r`. -/
theorem column_apply (x : FVec Ideal S8388608x2 .f32) (e : Fin 2) (h : S8388608x2.Slices ![0, e.val] S8388608x1) (r : Fin 8388608) :
    shapeCast S8388608 (extractStridedSlice S8388608x1 ![0, e.val] x h) shapeCasts_S8388608x1_S8388608 (ix1 r) = x (ix2 r e) := by
  rw [cast21 (extractStridedSlice S8388608x1 ![0, e.val] x h) shapeCasts_S8388608x1_S8388608 r (0 : Fin 1) r (by show r.val = r.val * 1 + 0; omega)]
  refine extractStridedSlice_apply _ x h _ (ix2 r e) fun a => ?_
  match a with
  | ⟨0, _⟩ => show r.val = 0 + r.val; omega
  | ⟨1, _⟩ => show e.val = e.val + 0; omega

/-- Row `r`'s difference. -/
theorem dist_apply (x : FVec Ideal S8388608x2 .f32) (r : Fin 8388608) :
    dist x (ix1 r) = FloatOps.subf (x (ix2 r (1 : Fin 2))) (x (ix2 r (0 : Fin 2))) :=
  congrArg₂ FloatOps.subf (column_apply x 1 slices_S8388608x2_S8388608x1_0_1 r) (column_apply x 0 slices_S8388608x2_S8388608x1_0_0 r)

/-- Over the extended reals "less than" answers one exactly when it holds. -/
theorem cmpf_olt_iff (a b : Ideal .f32) : FloatOps.cmpf (F := Ideal) .olt a b = 1#1 ↔ a < b := by
  show BitVec.ofBool (decide (a < b)) = 1#1 ↔ a < b
  by_cases h : a < b <;> simp [h]

/-- The reference's result at row `r`, column `c`. -/
theorem REF_apply (x : FVec Ideal S8388608x2 .f32) (s : FVec Ideal S2 .f32) (r : Fin 8388608) (c : Fin 3) :
    REF x s (ix2 r c) = hot (s (ix1 (0 : Fin 2))) (s (ix1 (1 : Fin 2))) (FloatOps.subf (x (ix2 r (1 : Fin 2))) (x (ix2 r (0 : Fin 2)))) c.val := by
  unfold REF hot
  refine congrArg₂ (fun a b => (IntOp.cmpi .eq a b).setWidth 32) ?_ ?_
  · rw [bcRows]
    rw [reduce_count (by decide) _ _ _ _ r (fun q => (if q = 0 then s (ix1 (0 : Fin 2)) else s (ix1 (1 : Fin 2))) < dist x (ix1 r)) ?_]
    · rw [dist_apply]
      unfold below
      rw [Nat.count_succ, Nat.count_succ, Nat.count_zero]
      simp
    · intro q
      show FloatOps.cmpf (F := Ideal) .olt (broadcastInDim S8388608x2 ![0, 1] bcast_S1x2_S8388608x2_0_1 (broadcastInDim S1x2 ![1] bcast_S2_S1x2_1 s) (ix2 r q))
        (broadcastInDim S8388608x2 ![0, 1] bcast_S8388608x1_S8388608x2_0_1 (broadcastInDim S8388608x1 ![0] bcast_S8388608_S8388608x1_0 (dist x)) (ix2 r q)) = 1#1 ↔ _
      rw [bcCols, bcRows, cmpf_olt_iff]
      match q with
      | ⟨0, _⟩ => exact Iff.rfl
      | ⟨1, _⟩ => exact Iff.rfl
  · refine (broadcastInDim_apply _ bcast_S1x3_S8388608x3_0_1 _ _ (ix2 (0 : Fin 1) c) fun a => ?_).trans rfl
    match a with
    | ⟨0, _⟩ => rfl
    | ⟨1, _⟩ => rfl

end Reference

/-! ## The four numbers -/

/-- With the splits in order, the kernel's words are the one-hot code. -/
theorem word_eq_hot (s0 s1 a b : Ideal .f32) (h : s0 ≤ s1) (c : Fin 3) : word s0 s1 a b c.val = hot s0 s1 (FloatOps.subf b a) c.val := by
  unfold word hot below
  generalize (FloatOps.subf b a : Ideal .f32) = x
  have e0 : FloatOps.cmpf (F := Ideal) .ogt x s0 = BitVec.ofBool (decide (s0 < x)) := rfl
  have e1 : FloatOps.cmpf (F := Ideal) .ogt x s1 = BitVec.ofBool (decide (s1 < x)) := rfl
  rw [e0, e1]
  by_cases h1 : s1 < x
  · have h0 : s0 < x := lt_of_le_of_lt h h1
    simp only [h0, h1, decide_true, if_true]
    revert c; decide
  · by_cases h0 : s0 < x
    · simp only [h0, h1, decide_true, decide_false, if_true, if_false]
      revert c; decide
    · simp only [h0, h1, decide_false, if_false]
      revert c; decide

/-- With the splits in order, the two results are one. -/
theorem RES_eq_REF (m : (ℓ : Loc nD τ sig) → Buf (Elt Ideal) ℓ) (d : Dev nD) (h : arg1 m d (ix1 (0 : Fin 2)) ≤ arg1 m d (ix1 (1 : Fin 2))) :
    RES m d = REF (arg0 m d) (arg1 m d) := by
  funext i
  have hi : ix2 (i 0 : Fin 8388608) (i 1 : Fin 3) = i := (eq_ix2 i).symm
  rw [← hi]
  exact (RES_apply m d (i 0) (i 1)).trans ((word_eq_hot _ _ _ _ h (i 1)).trans (REF_apply (arg0 m d) (arg1 m d) (i 0) (i 1)).symm)

end Cert.Proof.KernelIdeal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ordered_splits
public import proofs.«01_k».proof.Proof.Bins

@[expose] public section

noncomputable section

namespace Cert.Proof

open Idealize.ShloMosaic Idealize.SL.Sem Idealize.ShloMosaic.ValueIdx

/-! ## The frames -/

/-- The kernel and its ideal program are one text, so they declare the same threads. -/
theorem threads_eq : Cert.Kernel.threads (F := Bits) = Cert.KernelIdeal.threads (F := Bits) := rfl

/-- And the same bodies. -/
theorem defs_eq : Cert.Kernel.defs (F := Bits) = Cert.KernelIdeal.defs (F := Bits) := rfl

/-- The kernel's frame: the run at the float words, its result dropped. -/
theorem frame_p : Cert.quiescent_Kernel := by
  intro m ρ _
  rw [threads_eq, defs_eq]
  exact (θ_run Cert.KernelIdeal.defs _ _).mono (fun _ h => ⟨fun c => ⟨(h.1 c).1, (h.1 c).2.1⟩, h.2⟩) (KernelIdeal.run_main (F := Bits) m ρ)

/-- The ideal program's frame. -/
theorem frame_pi : Cert.quiescent_KernelIdeal := fun m ρ _ =>
  (θ_run Cert.KernelIdeal.defs _ _).mono (fun _ h => ⟨fun c => ⟨(h.1 c).1, (h.1 c).2.1⟩, h.2⟩) (KernelIdeal.run_main (F := Ideal) m ρ)

/-- The reference's frame: its run, its result dropped; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- What the precondition says: the first split is at most the second. -/
theorem ordered (m : (ℓ : Loc Cert.KernelIdeal.nD Cert.KernelIdeal.τ Cert.KernelIdeal.sig) → Buf (Elt Ideal) ℓ) (h : Cert.Pre_KernelIdeal_ordered_splits m)
    (c : Dev Cert.KernelIdeal.nD) : KernelIdeal.arg1 m c (ix1 (0 : Fin 2)) ≤ KernelIdeal.arg1 m c (ix1 (1 : Fin 2)) := by
  have h' := congrFun (h c) ix0
  change FloatOps.cmpf (F := Ideal) .ole
    (shapeCast Cert.KernelIdeal.S_ (extractStridedSlice Cert.KernelIdeal.S1 ![0] (KernelIdeal.arg1 m c) Cert.KernelIdeal.Gen.slices_S2_S1_0) Cert.KernelIdeal.Gen.shapeCasts_S1_S_ ix0)
    (shapeCast Cert.KernelIdeal.S_ (extractStridedSlice Cert.KernelIdeal.S1 ![1] (KernelIdeal.arg1 m c) Cert.KernelIdeal.Gen.slices_S2_S1_1) Cert.KernelIdeal.Gen.shapeCasts_S1_S_ ix0)
    = 1#1 at h'
  rw [KernelIdeal.pick_apply 0 (by decide), KernelIdeal.pick_apply 1 (by decide)] at h'
  change BitVec.ofBool (decide ((KernelIdeal.arg1 m c (ix1 (0 : Fin 2)) : EReal) ≤ KernelIdeal.arg1 m c (ix1 (1 : Fin 2)))) = 1#1 at h'
  by_contra hn
  rw [decide_eq_false hn] at h'
  exact absurd h' (by decide)

/-- Kernel and reference compute the same function over the extended reals, the splits in order. -/
theorem value : Cert.algebraic_KernelIdeal_ReferenceIdeal_pre_ordered_splits := by
  intro m ρ m' ρ' hpre hagree
  refine ⟨fun c => KernelIdeal.RES m c,
    (θ_run Cert.KernelIdeal.defs _ _).mono (fun _ h c => ⟨(h.1 c).2.2, (h.1 c).1, (h.1 c).2.1⟩) (KernelIdeal.run_main (F := Ideal) m ρ), ?_⟩
  refine (θ_run Cert.ReferenceIdeal.defs _ _).mono (fun r h c => ⟨(h c).1.trans ?_, (h c).2⟩) (Cert.ReferenceIdeal.Value.run (F := Ideal) m' ρ')
  refine Eq.trans ?_ (KernelIdeal.RES_eq_REF m c (ordered m hpre c)).symm
  exact congrArg₂ KernelIdeal.REF (hagree c).1 (hagree c).2

/-- Everything claimed. -/
theorem claim : Cert.Claim :=
  ⟨Cert.Kernel.Gen.facts, Cert.KernelIdeal.Gen.facts, Cert.ReferenceIdeal.Gen.facts, Cert.Pre_ordered_splits.Gen.facts,
    frame_p, frame_pi, fun m ρ _ => frame_pi m ρ trivial, frame_ri, fun m ρ _ => frame_ri m ρ trivial, trivial, value⟩

end Cert.Proof

end
